-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.sign_bit.Statement Cert.KernelIdeal.S256x384 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S1x2048x8x256 : Shape := ⟨4, ![1, 2048, 8, 256]⟩
abbrev S8x768x384 : Shape := ⟨3, ![8, 768, 384]⟩
abbrev S8x384 : Shape := ⟨2, ![8, 384]⟩
abbrev S8x384x768 : Shape := ⟨3, ![8, 384, 768]⟩
abbrev S8x768 : Shape := ⟨2, ![8, 768]⟩
abbrev S2048x768 : Shape := ⟨2, ![2048, 768]⟩
abbrev S2048x8x256 : Shape := ⟨3, ![2048, 8, 256]⟩
abbrev S8x1x384 : Shape := ⟨3, ![8, 1, 384]⟩
abbrev S8x1x768 : Shape := ⟨3, ![8, 1, 768]⟩
abbrev S512x8x256 : Shape := ⟨3, ![512, 8, 256]⟩
abbrev S512x768 : Shape := ⟨2, ![512, 768]⟩
abbrev S1x1x384 : Shape := ⟨3, ![1, 1, 384]⟩
abbrev S1x1x768 : Shape := ⟨3, ![1, 1, 768]⟩
abbrev S8x512x256 : Shape := ⟨3, ![8, 512, 256]⟩
abbrev S2x512x8x256 : Shape := ⟨4, ![2, 512, 8, 256]⟩
abbrev S8 : Shape := ⟨1, ![8]⟩
abbrev S4 : Shape := ⟨1, ![4]⟩
abbrev S1 : Shape := ⟨1, ![1]⟩
abbrev S_ : Shape := ⟨0, ![]⟩
abbrev S1x768x384 : Shape := ⟨3, ![1, 768, 384]⟩
abbrev S768x384 : Shape := ⟨2, ![768, 384]⟩
abbrev S1x384x768 : Shape := ⟨3, ![1, 384, 768]⟩
abbrev S384x768 : Shape := ⟨2, ![384, 768]⟩
abbrev S1x512x8x256 : Shape := ⟨4, ![1, 512, 8, 256]⟩
abbrev S1x512x256 : Shape := ⟨3, ![1, 512, 256]⟩
abbrev S512x256 : Shape := ⟨2, ![512, 256]⟩
abbrev S256x768 : Shape := ⟨2, ![256, 768]⟩
abbrev S256x384 : Shape := ⟨2, ![256, 384]⟩
abbrev S1x384 : Shape := ⟨2, ![1, 384]⟩
abbrev S1x768 : Shape := ⟨2, ![1, 768]⟩

abbrev nBuf : Space → Nat
  | .hbm => 14
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S1x2048x8x256, .f32⟩
  | .hbm, ⟨2, _⟩ => ⟨S1x2048x8x256, .f32⟩
  | .hbm, ⟨3, _⟩ => ⟨S8x768x384, .f32⟩
  | .hbm, ⟨4, _⟩ => ⟨S8x384, .f32⟩
  | .hbm, ⟨5, _⟩ => ⟨S8x384x768, .f32⟩
  | .hbm, ⟨6, _⟩ => ⟨S8x768, .f32⟩
  | .hbm, ⟨7, _⟩ => ⟨S2048x768, .f32⟩
  | .hbm, ⟨8, _⟩ => ⟨S2048x8x256, .f32⟩
  | .hbm, ⟨9, _⟩ => ⟨S2048x8x256, .f32⟩
  | .hbm, ⟨10, _⟩ => ⟨S8x1x384, .f32⟩
  | .hbm, ⟨11, _⟩ => ⟨S8x1x768, .f32⟩
  | .hbm, ⟨12, _⟩ => ⟨S2048x768, .f32⟩
  | .hbm, ⟨13, _⟩ => ⟨S1x2048x768, .f32⟩
  | .local _ .vmem, ⟨0, _⟩ => ⟨S512x8x256, .f32⟩
  | .local _ .vmem, ⟨1, _⟩ => ⟨S512x8x256, .f32⟩
  | .local _ .vmem, ⟨2, _⟩ => ⟨S512x768, .f32⟩
  | .local _ .vmem, ⟨3, _⟩ => ⟨S512x768, .f32⟩
  | .local _ .vmem, ⟨4, _⟩ => ⟨S1x1x384, .f32⟩
  | .local _ .vmem, ⟨5, _⟩ => ⟨S1x1x384, .f32⟩
  | .local _ .vmem, ⟨6, _⟩ => ⟨S1x1x768, .f32⟩
  | .local _ .vmem, ⟨7, _⟩ => ⟨S1x1x768, .f32⟩
  | .local _ .vmem, ⟨8, _⟩ => ⟨S512x768, .f32⟩
  | .local _ .vmem, ⟨9, _⟩ => ⟨S512x768, .f32⟩
  | .local _ .vmem, ⟨10, _⟩ => ⟨S2048x768, .f32⟩
  | .local _ .vmem, ⟨11, _⟩ => ⟨S8x512x256, .bf16⟩
  | .local _ .vmem, ⟨12, _⟩ => ⟨S8x768x384, .f32⟩
  | .local _ .vmem, ⟨13, _⟩ => ⟨S8x384x768, .f32⟩
  | .local _ .vmem, ⟨14, _⟩ => ⟨S2048x768, .bf16⟩
  | .local _ .vmem, ⟨15, _⟩ => ⟨S2x512x8x256, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![16], ![false]⟩

def k0_cond20 (i : grid0.Coords) : BitVec 1 :=
  let arg0 : BitVec 32 := BitVec.ofNat 32 (i 0).val
  let c4_i32_3 : BitVec 32 := 4#32
  let v9 : BitVec 1 := Scalar.cmpi .sge arg0 c4_i32_3
  let c12_i32 : BitVec 32 := 12#32
  let v10 : BitVec 1 := Scalar.cmpi .slt arg0 c12_i32
  let v11 : BitVec 1 := Scalar.andi v9 v10
  let v12 : BitVec 32 := Scalar.extui v11
  let c0_i32_4 : BitVec 32 := 0#32
  let v13 : BitVec 1 := Scalar.cmpi .ne v12 c0_i32_4
  v13

def k0_off1 (i : grid0.Coords) : Fin 1 → Nat :=
  let arg0 : BitVec 32 := BitVec.ofNat 32 (i 0).val
  let c4_i32_7 : BitVec 32 := 4#32
  let v17 : BitVec 32 := Scalar.subi arg0 c4_i32_7
  ![v17.toNat]
def k0_off2 (i : grid0.Coords) : Fin 3 → Nat :=
  let arg0 : BitVec 32 := BitVec.ofNat 32 (i 0).val
  let c4_i32_7 : BitVec 32 := 4#32
  let v17 : BitVec 32 := Scalar.subi arg0 c4_i32_7
  let c0_i32_8 : BitVec 32 := 0#32
  let c0_i32_9 : BitVec 32 := 0#32
  ![v17.toNat, 0, 0]
def k0_off3 (i : grid0.Coords) : Fin 3 → Nat :=
  let arg0 : BitVec 32 := BitVec.ofNat 32 (i 0).val
  let c4_i32_7 : BitVec 32 := 4#32
  let v17 : BitVec 32 := Scalar.subi arg0 c4_i32_7
  let c0_i32_12 : BitVec 32 := 0#32
  let c0_i32_13 : BitVec 32 := 0#32
  ![v17.toNat, 0, 0]
def k0_off4 (i : grid0.Coords) : Fin 2 → Nat :=
  let arg0 : BitVec 32 := BitVec.ofNat 32 (i 0).val
  let c4_i32_7 : BitVec 32 := 4#32
  let v17 : BitVec 32 := Scalar.subi arg0 c4_i32_7
  let c256_i32 : BitVec 32 := 256#32
  let v30 : BitVec 32 := Scalar.muli v17 c256_i32
  let v31 : Index := Scalar.indexCast v30
  let c0 : Index := 0#32
  ![v31.toNat, 0]
def k0_off5 (i : grid0.Coords) : Fin 3 → Nat :=
  let arg0 : BitVec 32 := BitVec.ofNat 32 (i 0).val
  let c4_i32_7 : BitVec 32 := 4#32
  let v17 : BitVec 32 := Scalar.subi arg0 c4_i32_7
  let v33 : Index := Scalar.indexCast v17
  let c0_16 : Index := 0#32
  let c0_17 : Index := 0#32
  ![v33.toNat, 0, 0]
def k0_off6 (i : grid0.Coords) : Fin 3 → Nat :=
  let arg0 : BitVec 32 := BitVec.ofNat 32 (i 0).val
  let c4_i32_7 : BitVec 32 := 4#32
  let v17 : BitVec 32 := Scalar.subi arg0 c4_i32_7
  let v87 : Index := Scalar.indexCast v17
  let c0_35 : Index := 0#32
  let c0_36 : Index := 0#32
  ![v87.toNat, 0, 0]
def k0_cond21 (i : grid0.Coords) : BitVec 1 :=
  let arg0 : BitVec 32 := BitVec.ofNat 32 (i 0).val
  let c12_i32_5 : BitVec 32 := 12#32
  let v14 : BitVec 1 := Scalar.cmpi .sge arg0 c12_i32_5
  let v15 : BitVec 32 := Scalar.extui v14
  let c0_i32_6 : BitVec 32 := 0#32
  let v16 : BitVec 1 := Scalar.cmpi .ne v15 c0_i32_6
  v16

def k0_off7 (i : grid0.Coords) : Fin 1 → Nat :=
  let arg0 : BitVec 32 := BitVec.ofNat 32 (i 0).val
  let c12_i32_7 : BitVec 32 := 12#32
  let v17 : BitVec 32 := Scalar.subi arg0 c12_i32_7
  ![v17.toNat]
def k0_off8 (i : grid0.Coords) : Fin 4 → Nat :=
  let arg0 : BitVec 32 := BitVec.ofNat 32 (i 0).val
  let c12_i32_7 : BitVec 32 := 12#32
  let v17 : BitVec 32 := Scalar.subi arg0 c12_i32_7
  let c2_i32 : BitVec 32 := 2#32
  let c0_i32_8 : BitVec 32 := 0#32
  let v19 : BitVec 1 := Scalar.cmpi .eq c2_i32 c0_i32_8
  let c1_i32 : BitVec 32 := 1#32
  let v20 : BitVec 32 := Scalar.select v19 c1_i32 c2_i32
  let v21 : BitVec 32 := Scalar.remsi v17 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v28.toNat, 0, 0, 0]
def k0_off9 (i : grid0.Coords) : Fin 3 → Nat :=
  let arg0 : BitVec 32 := BitVec.ofNat 32 (i 0).val
  let c12_i32_7 : BitVec 32 := 12#32
  let v17 : BitVec 32 := Scalar.subi arg0 c12_i32_7
  let c512_i32 : BitVec 32 := 512#32
  let v18 : BitVec 32 := Scalar.muli v17 c512_i32
  let c0_i32_15 : BitVec 32 := 0#32
  let c0_i32_16 : BitVec 32 := 0#32
  ![v18.toNat, 0, 0]
def k0_off10 (i : grid0.Coords) : Fin 4 → Nat :=
  let arg0 : BitVec 32 := BitVec.ofNat 32 (i 0).val
  let c12_i32_7 : BitVec 32 := 12#32
  let v17 : BitVec 32 := Scalar.subi arg0 c12_i32_7
  let c2_i32_17 : BitVec 32 := 2#32
  let c0_i32_18 : BitVec 32 := 0#32
  let v34 : BitVec 1 := Scalar.cmpi .eq c2_i32_17 c0_i32_18
  let c1_i32_19 : BitVec 32 := 1#32
  let v35 : BitVec 32 := Scalar.select v34 c1_i32_19 c2_i32_17
  let v36 : BitVec 32 := Scalar.remsi v17 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let v44 : Index := Scalar.indexCast v43
  let c0 : Index := 0#32
  let c0_23 : Index := 0#32
  let c0_24 : Index := 0#32
  ![v44.toNat, 0, 0, 0]
def k0_cond22 (i : grid0.Coords) : BitVec 1 :=
  let arg0 : BitVec 32 := BitVec.ofNat 32 (i 0).val
  let c12_i32_7 : BitVec 32 := 12#32
  let v17 : BitVec 32 := Scalar.subi arg0 c12_i32_7
  let c2_i32_28 : BitVec 32 := 2#32
  let v52 : BitVec 1 := Scalar.cmpi .slt v17 c2_i32_28
  let v53 : BitVec 32 := Scalar.extui v52
  let c0_i32_29 : BitVec 32 := 0#32
  let v54 : BitVec 1 := Scalar.cmpi .ne v53 c0_i32_29
  v54

def k0_off11 (i : grid0.Coords) : Fin 1 → Nat :=
  let arg0 : BitVec 32 := BitVec.ofNat 32 (i 0).val
  let c12_i32_7 : BitVec 32 := 12#32
  let v17 : BitVec 32 := Scalar.subi arg0 c12_i32_7
  let c2_i32_73 : BitVec 32 := 2#32
  let v107 : BitVec 32 := Scalar.addi v17 c2_i32_73
  ![v107.toNat]
def k0_off12 (i : grid0.Coords) : Fin 4 → Nat :=
  let arg0 : BitVec 32 := BitVec.ofNat 32 (i 0).val
  let c12_i32_7 : BitVec 32 := 12#32
  let v17 : BitVec 32 := Scalar.subi arg0 c12_i32_7
  let c2_i32_67 : BitVec 32 := 2#32
  let c0_i32_68 : BitVec 32 := 0#32
  let v97 : BitVec 1 := Scalar.cmpi .eq c2_i32_67 c0_i32_68
  let c1_i32_69 : BitVec 32 := 1#32
  let v98 : BitVec 32 := Scalar.select v97 c1_i32_69 c2_i32_67
  let v99 : BitVec 32 := Scalar.remsi v17 v98
  let c0_i32_71 : BitVec 32 := 0#32
  let v101 : BitVec 1 := Scalar.cmpi .slt v99 c0_i32_71
  let c0_i32_72 : BitVec 32 := 0#32
  let v102 : BitVec 1 := Scalar.cmpi .slt v98 c0_i32_72
  let v103 : BitVec 1 := Scalar.xori v101 v102
  let c0_i32_70 : BitVec 32 := 0#32
  let v100 : BitVec 1 := Scalar.cmpi .ne v99 c0_i32_70
  let v104 : BitVec 1 := Scalar.andi v103 v100
  let v105 : BitVec 32 := Scalar.addi v99 v98
  let v106 : BitVec 32 := Scalar.select v104 v105 v99
  let c0_i32_74 : BitVec 32 := 0#32
  let c0_i32_75 : BitVec 32 := 0#32
  let c0_i32_76 : BitVec 32 := 0#32
  ![v106.toNat, 0, 0, 0]
def k0_off13 (i : grid0.Coords) : Fin 3 → Nat :=
  let arg0 : BitVec 32 := BitVec.ofNat 32 (i 0).val
  let c12_i32_7 : BitVec 32 := 12#32
  let v17 : BitVec 32 := Scalar.subi arg0 c12_i32_7
  let c2_i32_65 : BitVec 32 := 2#32
  let v95 : BitVec 32 := Scalar.addi v17 c2_i32_65
  let c512_i32_66 : BitVec 32 := 512#32
  let v96 : BitVec 32 := Scalar.muli v95 c512_i32_66
  let c0_i32_77 : BitVec 32 := 0#32
  let c0_i32_78 : BitVec 32 := 0#32
  ![v96.toNat, 0, 0]
def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

abbrev stage0_0 : Fin 2 → Memref sig .tc .vmem S512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S1x2048x768 : Shape := ⟨3, ![1, 2048, 768]⟩
abbrev S1x2048x8x256 : Shape := ⟨4, ![1, 2048, 8, 256]⟩
abbrev S8x768x384 : Shape := ⟨3, ![8, 768, 384]⟩
abbrev S8x384 : Shape := ⟨2, ![8, 384]⟩
abbrev S8x384x768 : Shape := ⟨3, ![8, 384, 768]⟩
abbrev S8x768 : Shape := ⟨2, ![8, 768]⟩
abbrev S1x8x256x768 : Shape := ⟨4, ![1, 8, 256, 768]⟩
abbrev S8x384x1x256 : Shape := ⟨4, ![8, 384, 1, 256]⟩
abbrev S1x8x256x384 : Shape := ⟨4, ![1, 8, 256, 384]⟩
abbrev S1x8x1x384 : Shape := ⟨4, ![1, 8, 1, 384]⟩
abbrev S_ : Shape := ⟨0, ![]⟩
abbrev S8x768x1x256 : Shape := ⟨4, ![8, 768, 1, 256]⟩
abbrev S1x8x1x768 : Shape := ⟨4, ![1, 8, 1, 768]⟩

abbrev nBuf : Space → Nat
  | .hbm => 69
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x8x256, .f32⟩
  | .hbm, ⟨2, _⟩ => ⟨S1x2048x8x256, .f32⟩
  | .hbm, ⟨3, _⟩ => ⟨S8x768x384, .f32⟩
  | .hbm, ⟨4, _⟩ => ⟨S8x384, .f32⟩
  | .hbm, ⟨5, _⟩ => ⟨S8x384x768, .f32⟩
  | .hbm, ⟨6, _⟩ => ⟨S8x768, .f32⟩
  | .hbm, ⟨7, _⟩ => ⟨S1x8x256x768, .f32⟩
  | .hbm, ⟨8, _⟩ => ⟨S8x384x1x256, .f32⟩
  | .hbm, ⟨9, _⟩ => ⟨S1x8x256x384, .f32⟩
  | .hbm, ⟨10, _⟩ => ⟨S1x8x1x384, .f32⟩
  | .hbm, ⟨11, _⟩ => ⟨S1x8x256x384, .f32⟩
  | .hbm, ⟨12, _⟩ => ⟨S1x8x256x384, .f32⟩
  | .hbm, ⟨13, _⟩ => ⟨S_, .f32⟩
  | .hbm, ⟨14, _⟩ => ⟨S1x8x256x384, .f32⟩
  | .hbm, ⟨15, _⟩ => ⟨S1x8x256x384, .f32⟩
  | .hbm, ⟨16, _⟩ => ⟨S1x8x256x384, .f32⟩
  | .hbm, ⟨17, _⟩ => ⟨S_, .f32⟩
  | .hbm, ⟨18, _⟩ => ⟨S1x8x256x384, .f32⟩
  | .hbm, ⟨19, _⟩ => ⟨S1x8x256x384, .f32⟩
  | .hbm, ⟨20, _⟩ => ⟨S_, .f32⟩
  | .hbm, ⟨21, _⟩ => ⟨S1x8x256x384, .f32⟩
  | .hbm, ⟨22, _⟩ => ⟨S1x8x256x384, .f32⟩
  | .hbm, ⟨23, _⟩ => ⟨S_, .f32⟩
  | .hbm, ⟨24, _⟩ => ⟨S1x8x256x384, .f32⟩
  | .hbm, ⟨25, _⟩ => ⟨S1x8x256x384, .f32⟩
  | .hbm, ⟨26, _⟩ => ⟨S_, .f32⟩
  | .hbm, ⟨27, _⟩ => ⟨S1x8x256x384, .f32⟩
  | .hbm, ⟨28, _⟩ => ⟨S1x8x256x384, .f32⟩
  | .hbm, ⟨29, _⟩ => ⟨S_, .f32⟩
  | .hbm, ⟨30, _⟩ => ⟨S1x8x256x384, .f32⟩
  | .hbm, ⟨31, _⟩ => ⟨S1x8x256x384, .f32⟩
  | .hbm, ⟨32, _⟩ => ⟨S1x8x256x384, .f32⟩
  | .hbm, ⟨33, _⟩ => ⟨S_, .f32⟩
  | .hbm, ⟨34, _⟩ => ⟨S1x8x256x384, .f32⟩
  | .hbm, ⟨35, _⟩ => ⟨S1x8x256x384, .f32⟩
  | .hbm, ⟨36, _⟩ => ⟨S1x8x256x384, .f32⟩
  | .hbm, ⟨37, _⟩ => ⟨S_, .f32⟩
  | .hbm, ⟨38, _⟩ => ⟨S1x8x256x384, .f32⟩
  | .hbm, ⟨39, _⟩ => ⟨S1x8x256x384, .f32⟩
  | .hbm, ⟨40, _⟩ => ⟨S1x8x256x384, .f32⟩
  | .hbm, ⟨41, _⟩ => ⟨S_, .f32⟩
  | .hbm, ⟨42, _⟩ => ⟨S1x8x256x384, .f32⟩
  | .hbm, ⟨43, _⟩ => ⟨S1x8x256x384, .f32⟩
  | .hbm, ⟨44, _⟩ => ⟨S1x8x256x384, .f32⟩
  | .hbm, ⟨45, _⟩ => ⟨S1x8x256x384, .f32⟩
  | .hbm, ⟨46, _⟩ => ⟨S1x8x256x384, .f32⟩
  | .hbm, ⟨47, _⟩ => ⟨S1x8x256x384, .f32⟩
  | .hbm, ⟨48, _⟩ => ⟨S1x8x256x384, .f32⟩
  | .hbm, ⟨49, _⟩ => ⟨S1x8x256x384, .f32⟩
  | .hbm, ⟨50, _⟩ => ⟨S1x8x256x384, .f32⟩
  | .hbm, ⟨51, _⟩ => ⟨S1x8x256x384, .f32⟩
  | .hbm, ⟨52, _⟩ => ⟨S_, .f32⟩
  | .hbm, ⟨53, _⟩ => ⟨S1x8x256x384, .f32⟩
  | .hbm, ⟨54, _⟩ => ⟨S1x8x256x384, .f32⟩
  | .hbm, ⟨55, _⟩ => ⟨S1x8x256x384, .f32⟩
  | .hbm, ⟨56, _⟩ => ⟨S_, .f32⟩
  | .hbm, ⟨57, _⟩ => ⟨S1x8x256x384, .f32⟩
  | .hbm, ⟨58, _⟩ => ⟨S1x8x256x384, .f32⟩
  | .hbm, ⟨59, _⟩ => ⟨S_, .f32⟩
  | .hbm, ⟨60, _⟩ => ⟨S1x8x256x384, .f32⟩
  | .hbm, ⟨61, _⟩ => ⟨S1x8x256x384, .f32⟩
  | .hbm, ⟨62, _⟩ => ⟨S1x8x256x384, .f32⟩
  | .hbm, ⟨63, _⟩ => ⟨S8x768x1x256, .f32⟩
  | .hbm, ⟨64, _⟩ => ⟨S1x8x256x768, .f32⟩
  | .hbm, ⟨65, _⟩ => ⟨S1x8x1x768, .f32⟩
  | .hbm, ⟨66, _⟩ => ⟨S1x8x256x768, .f32⟩
  | .hbm, ⟨67, _⟩ => ⟨S1x8x256x768, .f32⟩
  | .hbm, ⟨68, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.IdealSetup.lean ====
/-
  The pieces the kernel's own transfers move, by name: for each expert the slot of either weight scratch, the block of
  the weight array it is filled from and the semaphore it completes on; for each row block of the combine array the same
  three (its slot is one of two). The views and semaphores the body forms at a symbolic grid point are proved to be
  these.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Whole buffers -/

abbrev accM : Memref sig .tc .vmem S2048x768 .f32 := Memref.whole cc0_scratch0
abbrev tM : Memref sig .tc .vmem S8x512x256 .bf16 := Memref.whole cc0_scratch1
abbrev w1M : Memref sig .tc .vmem S8x768x384 .f32 := Memref.whole cc0_scratch2
abbrev w2M : Memref sig .tc .vmem S8x384x768 .f32 := Memref.whole cc0_scratch3
abbrev yM : Memref sig .tc .vmem S2048x768 .bf16 := Memref.whole cc0_scratch4
abbrev cmM : Memref sig .tc .vmem S2x512x8x256 .f32 := Memref.whole cc0_scratch5
/-- The combine array, the two weight arrays. -/
abbrev cmA : Memref sig .tc .hbm S2048x8x256 .f32 := Memref.whole main_v2
abbrev w1A : Memref sig .tc .hbm S8x768x384 .f32 := Memref.whole main_arg3
abbrev w2A : Memref sig .tc .hbm S8x384x768 .f32 := Memref.whole main_arg5

/-! ## Offsets -/

abbrev off1 (e : Fin 8) : Fin 1 → Nat := ![e.val]
abbrev off3 (e : Fin 8) : Fin 3 → Nat := ![e.val, 0, 0]
abbrev offS (q : Fin 4) : Fin 1 → Nat := ![q.val]
abbrev offC (s : Fin 2) : Fin 4 → Nat := ![s.val, 0, 0, 0]
abbrev offH (q : Fin 4) : Fin 3 → Nat := ![512 * q.val, 0, 0]
abbrev offR (e : Fin 8) : Fin 2 → Nat := ![256 * e.val, 0]

theorem off1_inb (e : Fin 8) : ∀ a, off1 e a + S1.size a ≤ S8.size a := by
  have := e.isLt; intro a; fin_cases a; show e.val + 1 ≤ 8; omega
theorem off3_inb1 (e : Fin 8) : ∀ a, off3 e a + S1x768x384.size a ≤ S8x768x384.size a := by
  have := e.isLt; intro a; fin_cases a
  · show e.val + 1 ≤ 8; omega
  · show 0 + 768 ≤ 768; omega
  · show 0 + 384 ≤ 384; omega
theorem off3_inb2 (e : Fin 8) : ∀ a, off3 e a + S1x384x768.size a ≤ S8x384x768.size a := by
  have := e.isLt; intro a; fin_cases a
  · show e.val + 1 ≤ 8; omega
  · show 0 + 384 ≤ 384; omega
  · show 0 + 768 ≤ 768; omega
theorem offS_inb (q : Fin 4) : ∀ a, offS q a + S1.size a ≤ S4.size a := by
  have := q.isLt; intro a; fin_cases a; show q.val + 1 ≤ 4; omega
theorem offC_inb (s : Fin 2) : ∀ a, offC s a + S1x512x8x256.size a ≤ S2x512x8x256.size a := by
  have := s.isLt; intro a; fin_cases a
  · show s.val + 1 ≤ 2; omega
  · show 0 + 512 ≤ 512; omega
  · show 0 + 8 ≤ 8; omega
  · show 0 + 256 ≤ 256; omega
theorem offH_inb (q : Fin 4) : ∀ a, offH q a + S512x8x256.size a ≤ S2048x8x256.size a := by
  have := q.isLt; intro a; fin_cases a
  · show 512 * q.val + 512 ≤ 2048; omega
  · show 0 + 8 ≤ 8; omega
  · show 0 + 256 ≤ 256; omega
theorem offR_inb (e : Fin 8) : ∀ a, offR e a + S256x768.size a ≤ S2048x768.size a := by
  have := e.isLt; intro a; fin_cases a
  · show 256 * e.val + 256 ≤ 2048; omega
  · show 0 + 768 ≤ 768; omega

/-! ## The named views and semaphores -/

def w1S (e : Fin 8) : Memref sig .tc .vmem S768x384 .f32 :=
  (w1M.slice (Rect.unit (s := S8x768x384) (off3 e) S1x768x384.size (off3_inb1 e)) (fun _ => rfl)).squeeze S768x384 squeezes_S1x768x384_S768x384
def w1H (e : Fin 8) : Memref sig .tc .hbm S768x384 .f32 :=
  (w1A.slice (Rect.unit (s := S8x768x384) (off3 e) S1x768x384.size (off3_inb1 e)) (fun _ => rfl)).squeeze S768x384 squeezes_S1x768x384_S768x384
def w2S (e : Fin 8) : Memref sig .tc .vmem S384x768 .f32 :=
  (w2M.slice (Rect.unit (s := S8x384x768) (off3 e) S1x384x768.size (off3_inb2 e)) (fun _ => rfl)).squeeze S384x768 squeezes_S1x384x768_S384x768
def w2H (e : Fin 8) : Memref sig .tc .hbm S384x768 .f32 :=
  (w2A.slice (Rect.unit (s := S8x384x768) (off3 e) S1x384x768.size (off3_inb2 e)) (fun _ => rfl)).squeeze S384x768 squeezes_S1x384x768_S384x768
def cmS (s : Fin 2) : Memref sig .tc .vmem S512x8x256 .f32 :=
  (cmM.slice (Rect.unit (s := S2x512x8x256) (offC s) S1x512x8x256.size (offC_inb s)) (fun _ => rfl)).squeeze S512x8x256 squeezes_S1x512x8x256_S512x8x256
def cmH (q : Fin 4) : Memref sig .tc .hbm S512x8x256 .f32 :=
  cmA.slice (Rect.unit (s := S2048x8x256) (offH q) S512x8x256.size (offH_inb q)) (fun _ => rfl)
def w1C (e : Fin 8) : DmaSems sig S_ := (cc0_scratch6.slice (Rect.unit (s := S8) (off1 e) S1.size (off1_inb e))).squeeze S_ squeezes_S1_S_
def w2C (e : Fin 8) : DmaSems sig S_ := (cc0_scratch7.slice (Rect.unit (s := S8) (off1 e) S1.size (off1_inb e))).squeeze S_ squeezes_S1_S_
def cmC (q : Fin 4) : DmaSems sig S_ := (cc0_scratch8.slice (Rect.unit (s := S4) (offS q) S1.size (offS_inb q))).squeeze S_ squeezes_S1_S_

instance (e : Fin 8) : ClosedOff (off3 e) := ⟨off3 e, rfl⟩
instance (e : Fin 8) : ClosedOff (offR e) := ⟨offR e, rfl⟩
instance (s : Fin 2) : ClosedOff (offC s) := ⟨offC s, rfl⟩
instance (q : Fin 4) : ClosedOff (offH q) := ⟨offH q, rfl⟩

/-! ## The grid point's conditions and offsets in closed form -/

/-- The expert of a point of the middle phase. -/
def eOf (i : grid0.Coords) : Fin 8 := ⟨((i 0).val - 4) % 8, Nat.mod_lt _ (by decide)⟩
/-- The row block of a point of the last phase, the block it starts to fetch, the slot of both. -/
def qOf (i : grid0.Coords) : Fin 4 := ⟨((i 0).val - 12) % 4, Nat.mod_lt _ (by decide)⟩
def qNext (i : grid0.Coords) : Fin 4 := ⟨((i 0).val - 10) % 4, Nat.mod_lt _ (by decide)⟩
def sOf (i : grid0.Coords) : Fin 2 := ⟨(i 0).val % 2, Nat.mod_lt _ (by decide)⟩

/-- The grid point of a number. -/
def ptOf (n : Fin 16) : grid0.Coords := fun | ⟨0, _⟩ => n | ⟨_ + 1, h⟩ => absurd h (Nat.not_lt.2 (Nat.le_add_left _ _))

theorem all_coords {P : grid0.Coords → Prop} (h : ∀ n : Fin 16, P (ptOf n)) (i : grid0.Coords) : P i := by
  have e : i = ptOf (i 0) := funext fun | ⟨0, _⟩ => rfl | ⟨_ + 1, h⟩ => absurd h (Nat.not_lt.2 (Nat.le_add_left _ _))
  rw [e]; exact h _

theorem cond20_iff (i : grid0.Coords) : k0_cond20 i = 1#1 ↔ 4 ≤ (i 0).val ∧ (i 0).val < 12 := by
  revert i; exact all_coords (by decide +kernel)
theorem cond21_iff (i : grid0.Coords) : k0_cond21 i = 1#1 ↔ 12 ≤ (i 0).val := by
  revert i; exact all_coords (by decide +kernel)
theorem cond22_iff (i : grid0.Coords) (h : 12 ≤ (i 0).val) : k0_cond22 i = 1#1 ↔ (i 0).val < 14 := by
  revert h; revert i; exact all_coords (by decide +kernel)
theorem eq_iff (i : grid0.Coords) : Scalar.cmpi .ne (Scalar.extui (Scalar.cmpi .eq (BitVec.ofNat 32 (i 0).val) 0#32) : BitVec 32) 0#32 = 1#1 ↔ (i 0).val = 0 := by
  revert i; exact all_coords (by decide +kernel)
theorem ne_iff (i : grid0.Coords) : Scalar.cmpi .ne (Scalar.extui (Scalar.cmpi .ne (BitVec.ofNat 32 (i 0).val) 0#32) : BitVec 32) 0#32 = 1#1 ↔ (i 0).val ≠ 0 := by
  revert i; exact all_coords (by decide +kernel)
theorem eq3_iff (i : grid0.Coords) : Scalar.cmpi .ne (Scalar.extui (Scalar.cmpi .eq (BitVec.ofNat 32 (i 0).val) 3#32) : BitVec 32) 0#32 = 1#1 ↔ (i 0).val = 3 := by
  revert i; exact all_coords (by decide +kernel)
theorem lt4_iff (i : grid0.Coords) : Scalar.cmpi .ne (Scalar.extui (Scalar.cmpi .slt (BitVec.ofNat 32 (i 0).val) 4#32) : BitVec 32) 0#32 = 1#1 ↔ (i 0).val < 4 := by
  revert i; exact all_coords (by decide +kernel)

theorem koff1 (i : grid0.Coords) (h : k0_cond20 i = 1#1) : k0_off1 i = off1 (eOf i) := by
  revert h; revert i; exact all_coords (by decide +kernel)
theorem koff2 (i : grid0.Coords) (h : k0_cond20 i = 1#1) : k0_off2 i = off3 (eOf i) := by
  revert h; revert i; exact all_coords (by decide +kernel)
theorem koff3 (i : grid0.Coords) (h : k0_cond20 i = 1#1) : k0_off3 i = off3 (eOf i) := by
  revert h; revert i; exact all_coords (by decide +kernel)
theorem koff4 (i : grid0.Coords) (h : k0_cond20 i = 1#1) : k0_off4 i = offR (eOf i) := by
  revert h; revert i; exact all_coords (by decide +kernel)
theorem koff5 (i : grid0.Coords) (h : k0_cond20 i = 1#1) : k0_off5 i = off3 (eOf i) := by
  revert h; revert i; exact all_coords (by decide +kernel)
theorem koff6 (i : grid0.Coords) (h : k0_cond20 i = 1#1) : k0_off6 i = off3 (eOf i) := by
  revert h; revert i; exact all_coords (by decide +kernel)
theorem koff7 (i : grid0.Coords) (h : k0_cond21 i = 1#1) : k0_off7 i = offS (qOf i) := by
  revert h; revert i; exact all_coords (by decide +kernel)
theorem koff8 (i : grid0.Coords) (h : k0_cond21 i = 1#1) : k0_off8 i = offC (sOf i) := by
  revert h; revert i; exact all_coords (by decide +kernel)
theorem koff9 (i : grid0.Coords) (h : k0_cond21 i = 1#1) : k0_off9 i = offH (qOf i) := by
  revert h; revert i; exact all_coords (by decide +kernel)
theorem koff10 (i : grid0.Coords) (h : k0_cond21 i = 1#1) : k0_off10 i = offC (sOf i) := by
  revert h; revert i; exact all_coords (by decide +kernel)
theorem koff11 (i : grid0.Coords) (h : k0_cond21 i = 1#1) (h' : k0_cond22 i = 1#1) : k0_off11 i = offS (qNext i) := by
  revert h h'; revert i; exact all_coords (by decide +kernel)
theorem koff12 (i : grid0.Coords) (h : k0_cond21 i = 1#1) (h' : k0_cond22 i = 1#1) : k0_off12 i = offC (sOf i) := by
  revert h h'; revert i; exact all_coords (by decide +kernel)
theorem koff13 (i : grid0.Coords) (h : k0_cond21 i = 1#1) (h' : k0_cond22 i = 1#1) : k0_off13 i = offH (qNext i) := by
  revert h h'; revert i; exact all_coords (by decide +kernel)

/-! The boxes of the body's loads and stores, in closed form in their phase. -/
instance (i : grid0.Coords) [h : Fact (k0_cond20 i = 1#1)] : ClosedOff (k0_off4 i) := ⟨offR (eOf i), koff4 i h.out⟩
instance (i : grid0.Coords) [h : Fact (k0_cond20 i = 1#1)] : ClosedOff (k0_off5 i) := ⟨off3 (eOf i), koff5 i h.out⟩
instance (i : grid0.Coords) [h : Fact (k0_cond20 i = 1#1)] : ClosedOff (k0_off6 i) := ⟨off3 (eOf i), koff6 i h.out⟩
instance (i : grid0.Coords) [h : Fact (k0_cond21 i = 1#1)] : ClosedOff (k0_off10 i) := ⟨offC (sOf i), koff10 i h.out⟩

/-! ## The body's views and semaphores are the named ones -/

section Names
variable {n : Nat}

private theorem w1S_congr {off : Fin 3 → Nat} {e : Fin 8} (h : off = off3 e) (hh hs) :
    (w1M.slice (Rect.unit (s := S8x768x384) off S1x768x384.size hh) hs).squeeze S768x384 squeezes_S1x768x384_S768x384 = w1S e :=
  congrArg (fun M : Memref sig .tc .vmem S1x768x384 .f32 => M.squeeze S768x384 squeezes_S1x768x384_S768x384) (Memref.slice_unit_congr _ h _ _ _ _)
private theorem w1H_congr {off : Fin 3 → Nat} {e : Fin 8} (h : off = off3 e) (hh hs) :
    (w1A.slice (Rect.unit (s := S8x768x384) off S1x768x384.size hh) hs).squeeze S768x384 squeezes_S1x768x384_S768x384 = w1H e :=
  congrArg (fun M : Memref sig .tc .hbm S1x768x384 .f32 => M.squeeze S768x384 squeezes_S1x768x384_S768x384) (Memref.slice_unit_congr _ h _ _ _ _)
private theorem w2S_congr {off : Fin 3 → Nat} {e : Fin 8} (h : off = off3 e) (hh hs) :
    (w2M.slice (Rect.unit (s := S8x384x768) off S1x384x768.size hh) hs).squeeze S384x768 squeezes_S1x384x768_S384x768 = w2S e :=
  congrArg (fun M : Memref sig .tc .vmem S1x384x768 .f32 => M.squeeze S384x768 squeezes_S1x384x768_S384x768) (Memref.slice_unit_congr _ h _ _ _ _)
private theorem w2H_congr {off : Fin 3 → Nat} {e : Fin 8} (h : off = off3 e) (hh hs) :
    (w2A.slice (Rect.unit (s := S8x384x768) off S1x384x768.size hh) hs).squeeze S384x768 squeezes_S1x384x768_S384x768 = w2H e :=
  congrArg (fun M : Memref sig .tc .hbm S1x384x768 .f32 => M.squeeze S384x768 squeezes_S1x384x768_S384x768) (Memref.slice_unit_congr _ h _ _ _ _)
private theorem cmS_congr {off : Fin 4 → Nat} {s : Fin 2} (h : off = offC s) (hh hs) :
    (cmM.slice (Rect.unit (s := S2x512x8x256) off S1x512x8x256.size hh) hs).squeeze S512x8x256 squeezes_S1x512x8x256_S512x8x256 = cmS s :=
  congrArg (fun M : Memref sig .tc .vmem S1x512x8x256 .f32 => M.squeeze S512x8x256 squeezes_S1x512x8x256_S512x8x256) (Memref.slice_unit_congr _ h _ _ _ _)
private theorem cmH_congr {off : Fin 3 → Nat} {q : Fin 4} (h : off = offH q) (hh hs) :
    cmA.slice (Rect.unit (s := S2048x8x256) off S512x8x256.size hh) hs = cmH q :=
  Memref.slice_unit_congr _ h _ _ hs (fun _ => rfl)
private theorem w1C_congr {off : Fin 1 → Nat} {e : Fin 8} (h : off = off1 e) (hh) :
    (cc0_scratch6.slice (Rect.unit (s := S8) off S1.size hh)).squeeze S_ squeezes_S1_S_ = w1C e :=
  congrArg (fun A : DmaSems sig S1 => A.squeeze S_ squeezes_S1_S_) (SemArray.slice_unit_congr _ h _ _)
private theorem w2C_congr {off : Fin 1 → Nat} {e : Fin 8} (h : off = off1 e) (hh) :
    (cc0_scratch7.slice (Rect.unit (s := S8) off S1.size hh)).squeeze S_ squeezes_S1_S_ = w2C e :=
  congrArg (fun A : DmaSems sig S1 => A.squeeze S_ squeezes_S1_S_) (SemArray.slice_unit_congr _ h _ _)
private theorem cmC_congr {off : Fin 1 → Nat} {q : Fin 4} (h : off = offS q) (hh) :
    (cc0_scratch8.slice (Rect.unit (s := S4) off S1.size hh)).squeeze S_ squeezes_S1_S_ = cmC q :=
  congrArg (fun A : DmaSems sig S1 => A.squeeze S_ squeezes_S1_S_) (SemArray.slice_unit_congr _ h _ _)

/-! At a literal expert or block (the first points' issues). -/
@[sl_canon] theorem w1S_lit (hn : n < 8) (hh hs) :
    (w1M.slice (Rect.unit (s := S8x768x384) ![n, 0, 0] S1x768x384.size hh) hs).squeeze S768x384 squeezes_S1x768x384_S768x384 = w1S ⟨n, hn⟩ := w1S_congr (e := ⟨n, hn⟩) rfl _ _
@[sl_canon] theorem w1H_lit (hn : n < 8) (hh hs) :
    (w1A.slice (Rect.unit (s := S8x768x384) ![n, 0, 0] S1x768x384.size hh) hs).squeeze S768x384 squeezes_S1x768x384_S768x384 = w1H ⟨n, hn⟩ := w1H_congr (e := ⟨n, hn⟩) rfl _ _
@[sl_canon] theorem w2S_lit (hn : n < 8) (hh hs) :
    (w2M.slice (Rect.unit (s := S8x384x768) ![n, 0, 0] S1x384x768.size hh) hs).squeeze S384x768 squeezes_S1x384x768_S384x768 = w2S ⟨n, hn⟩ := w2S_congr (e := ⟨n, hn⟩) rfl _ _
@[sl_canon] theorem w2H_lit (hn : n < 8) (hh hs) :
    (w2A.slice (Rect.unit (s := S8x384x768) ![n, 0, 0] S1x384x768.size hh) hs).squeeze S384x768 squeezes_S1x384x768_S384x768 = w2H ⟨n, hn⟩ := w2H_congr (e := ⟨n, hn⟩) rfl _ _
@[sl_canon] theorem w1C_lit (hn : n < 8) (hh) :
    (cc0_scratch6.slice (Rect.unit (s := S8) ![n] S1.size hh)).squeeze S_ squeezes_S1_S_ = w1C ⟨n, hn⟩ := w1C_congr (e := ⟨n, hn⟩) rfl _
@[sl_canon] theorem w2C_lit (hn : n < 8) (hh) :
    (cc0_scratch7.slice (Rect.unit (s := S8) ![n] S1.size hh)).squeeze S_ squeezes_S1_S_ = w2C ⟨n, hn⟩ := w2C_congr (e := ⟨n, hn⟩) rfl _
@[sl_canon] theorem cmS_lit (hn : n < 2) (hh hs) :
    (cmM.slice (Rect.unit (s := S2x512x8x256) ![n, 0, 0, 0] S1x512x8x256.size hh) hs).squeeze S512x8x256 squeezes_S1x512x8x256_S512x8x256 = cmS ⟨n, hn⟩ := cmS_congr (s := ⟨n, hn⟩) rfl _ _
@[sl_canon] theorem cmH_lit0 (hh hs) :
    cmA.slice (Rect.unit (s := S2048x8x256) ![0, 0, 0] S512x8x256.size hh) hs = cmH ⟨0, by decide⟩ := cmH_congr (q := ⟨0, by decide⟩) rfl _ _
@[sl_canon] theorem cmH_lit1 (hh hs) :
    cmA.slice (Rect.unit (s := S2048x8x256) ![512, 0, 0] S512x8x256.size hh) hs = cmH ⟨1, by decide⟩ := cmH_congr (q := ⟨1, by decide⟩) rfl _ _
@[sl_canon] theorem cmC_lit (hn : n < 4) (hh) :
    (cc0_scratch8.slice (Rect.unit (s := S4) ![n] S1.size hh)).squeeze S_ squeezes_S1_S_ = cmC ⟨n, hn⟩ := cmC_congr (q := ⟨n, hn⟩) rfl _

/-! At a symbolic point of the middle phase. -/
variable (i : grid0.Coords)
@[sl_canon] theorem w1S_at (h : k0_cond20 i = 1#1) (hh hs) :
    (w1M.slice (Rect.unit (s := S8x768x384) (k0_off2 i) S1x768x384.size hh) hs).squeeze S768x384 squeezes_S1x768x384_S768x384 = w1S (eOf i) := w1S_congr (koff2 i h) _ _
@[sl_canon] theorem w1H_at (h : k0_cond20 i = 1#1) (hh hs) :
    (w1A.slice (Rect.unit (s := S8x768x384) (k0_off2 i) S1x768x384.size hh) hs).squeeze S768x384 squeezes_S1x768x384_S768x384 = w1H (eOf i) := w1H_congr (koff2 i h) _ _
@[sl_canon] theorem w2S_at (h : k0_cond20 i = 1#1) (hh hs) :
    (w2M.slice (Rect.unit (s := S8x384x768) (k0_off3 i) S1x384x768.size hh) hs).squeeze S384x768 squeezes_S1x384x768_S384x768 = w2S (eOf i) := w2S_congr (koff3 i h) _ _
@[sl_canon] theorem w2H_at (h : k0_cond20 i = 1#1) (hh hs) :
    (w2A.slice (Rect.unit (s := S8x384x768) (k0_off3 i) S1x384x768.size hh) hs).squeeze S384x768 squeezes_S1x384x768_S384x768 = w2H (eOf i) := w2H_congr (koff3 i h) _ _
@[sl_canon] theorem w1C_at (h : k0_cond20 i = 1#1) (hh) :
    (cc0_scratch6.slice (Rect.unit (s := S8) (k0_off1 i) S1.size hh)).squeeze S_ squeezes_S1_S_ = w1C (eOf i) := w1C_congr (koff1 i h) _
@[sl_canon] theorem w2C_at (h : k0_cond20 i = 1#1) (hh) :
    (cc0_scratch7.slice (Rect.unit (s := S8) (k0_off1 i) S1.size hh)).squeeze S_ squeezes_S1_S_ = w2C (eOf i) := w2C_congr (koff1 i h) _
/-! At a symbolic point of the last phase: the block waited for, the block the next fetch takes. -/
@[sl_canon] theorem cmS_at (h : k0_cond21 i = 1#1) (hh hs) :
    (cmM.slice (Rect.unit (s := S2x512x8x256) (k0_off8 i) S1x512x8x256.size hh) hs).squeeze S512x8x256 squeezes_S1x512x8x256_S512x8x256 = cmS (sOf i) := cmS_congr (koff8 i h) _ _
@[sl_canon] theorem cmH_at (h : k0_cond21 i = 1#1) (hh hs) :
    cmA.slice (Rect.unit (s := S2048x8x256) (k0_off9 i) S512x8x256.size hh) hs = cmH (qOf i) := cmH_congr (koff9 i h) _ _
@[sl_canon] theorem cmC_at (h : k0_cond21 i = 1#1) (hh) :
    (cc0_scratch8.slice (Rect.unit (s := S4) (k0_off7 i) S1.size hh)).squeeze S_ squeezes_S1_S_ = cmC (qOf i) := cmC_congr (koff7 i h) _
@[sl_canon] theorem cmS_next (h : k0_cond21 i = 1#1) (h' : k0_cond22 i = 1#1) (hh hs) :
    (cmM.slice (Rect.unit (s := S2x512x8x256) (k0_off12 i) S1x512x8x256.size hh) hs).squeeze S512x8x256 squeezes_S1x512x8x256_S512x8x256 = cmS (sOf i) := cmS_congr (koff12 i h h') _ _
@[sl_canon] theorem cmH_next (h : k0_cond21 i = 1#1) (h' : k0_cond22 i = 1#1) (hh hs) :
    cmA.slice (Rect.unit (s := S2048x8x256) (k0_off13 i) S512x8x256.size hh) hs = cmH (qNext i) := cmH_congr (koff13 i h h') _ _
@[sl_canon] theorem cmC_next (h : k0_cond21 i = 1#1) (h' : k0_cond22 i = 1#1) (hh) :
    (cc0_scratch8.slice (Rect.unit (s := S4) (k0_off11 i) S1.size hh)).squeeze S_ squeezes_S1_S_ = cmC (qNext i) := cmC_congr (koff11 i h h') _

end Names

end Cert.KernelIdeal.Hand

end
-- ==== Proof.IdealPieces.lean ====
/-
  What is held of the kernel's own transfers: a semaphore at zero, a slot at some contents, a block of its source, and a
  transfer in flight (which gives the slot back filled and the block).
-/
module

public import proofs.«01_k».proof.Proof.IdealSetup

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The contents a memref's buffer has on core `c`. -/
abbrev BufOf (F : FTy → Type) (c : Dev nD) {sp : Space} {S : Shape} {e : EltTy} (M : Memref sig .tc sp S e) : Type :=
  Buf (Elt F) (M.view.loc (c : Thread nD τ))
/-- A memref's elements held at contents `f`. -/
abbrev heldP (c : Dev nD) {sp : Space} {S : Shape} {e : EltTy} (M : Memref sig .tc sp S e) (f : BufOf F c M) : sProp 𝕄 :=
  M.view.loc (c : Thread nD τ) ↦[M.view.set]{fullShare} f
/-- A whole buffer held at contents `f`. -/
abbrev wholeP (c : Dev nD) {sp : Space} {S : Shape} {e : EltTy} (M : Memref sig .tc sp S e) (f : BufOf F c M) : sProp 𝕄 :=
  M.view.loc (c : Thread nD τ) ↦{fullShare} f
/-- A semaphore at zero. -/
abbrev cellP (c : Dev nD) (s : DmaSems sig S_) : sProp 𝕄 := semVal ((c : Thread nD τ), SemLoc.dma s.sem) 0
/-- What a transfer from `H` leaves in `S` over prior contents `f`. -/
abbrev landed (c : Dev nD) {T : Shape} (S : Memref sig .tc .vmem T .f32) (H : Memref sig .tc .hbm T .f32) (X : BufOf F c H)
    (f : BufOf F c S) : BufOf F c S :=
  S.view.writes (Elt F) f [⟨Rect.whole T, ReadAs.same.apply (H.view.read (Elt F) X)⟩]
/-- A transfer in flight: `n` units on the semaphore, the slot and the source to come back. -/
abbrev flightP (c : Dev nD) (n : ℕ) {T : Shape} (s : DmaSems sig S_) (S : Memref sig .tc .vmem T .f32) (H : Memref sig .tc .hbm T .f32)
    (X : BufOf F c H) (f : BufOf F c S) : sProp 𝕄 :=
  Transfers.Flight countersEmb (c : Thread nD τ) (SemLoc.dma s.sem) () n iprop(heldP c S (landed c S H X f) ∗ heldP c H X)

/-- The transfers' amounts: a weight block, a block of the combine array. -/
abbrev nW : ℕ := 36864
abbrev nC : ℕ := 131072

end Cert.KernelIdeal.Hand

end
-- ==== Proof.IdealSpec.lean ====
/-
  What the body computes at a grid point, as functions of the blocks it loads: an expert's share of the gathered rows, the
  expert network on its gathered rows, and an output block from a block of the combine array and the experts' results.
  Then the readings of the scratch buffers that the body's stores and the transfers leave.
-/
module

public import proofs.«01_k».proof.Proof.IdealPieces
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values -/

theorem off3_inbT (e : Fin 8) : ∀ a, off3 e a + S1x512x256.size a ≤ S8x512x256.size a := by
  have := e.isLt; intro a; fin_cases a
  · show e.val + 1 ≤ 8; omega
  · show 0 + 512 ≤ 512; omega
  · show 0 + 256 ≤ 256; omega

/-- Expert `e`'s slab of the block laid out expert by expert. -/
def slab (t : Vec F S8x512x256 .bf16) (e : Fin 8) : Vec F S1x512x256 .bf16 :=
  VecWindow.window t (off3 e) S1x512x256.size (off3_inbT e)
/-- The expert's rows from the first block: mask block `d`, token block `x`. -/
def accInit (d : Vec F S512x8x256 .f32) (x : Vec F S512x768 .f32) (e : Fin 8) : Vec F S256x768 .f32 :=
  k0_pay5 (k0_pay13 x) (slab (k0_pay12 d) e)
/-- The expert's rows `a` with one more block's share. -/
def accAdd (d : Vec F S512x8x256 .f32) (x : Vec F S512x768 .f32) (e : Fin 8) (a : Vec F S256x768 .f32) : Vec F S256x768 .f32 :=
  k0_pay6 (k0_pay13 x) (slab (k0_pay12 d) e) a
/-- The expert's network on its rows `a`. -/
def yVal (a : Vec F S256x768 .f32) (w1 : Vec F S1x768x384 .f32) (b1 : Vec F S1x1x384 .f32) (w2 : Vec F S1x384x768 .f32)
    (b2 : Vec F S1x1x768 .f32) : Vec F S256x768 .bf16 :=
  k0_pay10 (k0_pay35 (k0_pay31 a w1 b1) (k0_pay33 a w1 b1) (k0_pay34 a w1 b1) w2 b2)
/-- The output block of a combine block laid out expert by expert and the experts' results. -/
def outVal (t : Vec F S8x512x256 .bf16) (y : Fin 8 → Vec F S256x768 .bf16) : Vec F S512x768 .f32 :=
  k0_pay11 (k0_pay38 (slab t 0) (y 0) (slab t 1) (y 1) (slab t 2) (y 2) (slab t 3) (y 3)) (k0_pay39 (slab t 4)) (y 4)
    (constant S512x768 .f32 0x00000000#32) (slab t 5) (y 5) (slab t 6) (y 6) (slab t 7) (y 7)

/-- Expert `e`'s rows of a buffer of all the experts' rows. -/
def rowsOf {sp : Space} {t : EltTy} (M : Memref sig .tc sp S2048x768 t) (f : M.view.ty.Contents (Elt F)) (e : Fin 8) : Vec F S256x768 t :=
  VecWindow.window (M.view.read (Elt F) f) (offR e) S256x768.size (offR_inb e)
/-- Expert `e`'s block of either weight array. -/
def w1Blk (X : w1A.view.ty.Contents (Elt F)) (e : Fin 8) : Vec F S1x768x384 .f32 :=
  VecWindow.window (w1A.view.read (Elt F) X) (off3 e) S1x768x384.size (off3_inb1 e)
def w2Blk (X : w2A.view.ty.Contents (Elt F)) (e : Fin 8) : Vec F S1x384x768 .f32 :=
  VecWindow.window (w2A.view.read (Elt F) X) (off3 e) S1x384x768.size (off3_inb2 e)
/-- Row block `q` of the combine array. -/
def cmBlk (X : cmA.view.ty.Contents (Elt F)) (q : Fin 4) : Vec F S512x8x256 .f32 :=
  VecWindow.window (cmA.view.read (Elt F) X) (offH q) S512x8x256.size (offH_inb q)

/-! ## Stores of experts' rows -/

section Rows
variable {sp : Space} {t : EltTy} (M : Memref sig .tc sp S2048x768 t) (f : M.view.ty.Contents (Elt F))

/-- After a store of expert `e'`'s rows, expert `e`'s rows are the payload or what was there. -/
theorem rowsOf_cons (e' e : Fin 8) {off : Fin 2 → ℕ} (hoff : off = offR e') (inb : ∀ a, off a + S256x768.size a ≤ S2048x768.size a)
    (w : Vec F S256x768 t) (L : List (View.Piece (Elt F) S2048x768 t)) :
    rowsOf M (M.view.writes (Elt F) f (⟨Rect.unit (s := S2048x768) off S256x768.size inb, w⟩ :: L)) e
      = if e = e' then w else rowsOf M (M.view.writes (Elt F) f L) e := by
  unfold rowsOf
  rw [View.read_writes_cons_put M.view f inb w L hoff]
  split_ifs with h
  · subst h
    exact VecWindow.window_put_same _ _ _ _ _
  · refine VecWindow.window_put_of_disjoint _ _ _ _ _ _ _ (0 : Fin 2) ?_
    have : e.val ≠ e'.val := fun h' => h (Fin.ext h')
    show 256 * e.val + 256 ≤ 256 * e'.val ∨ 256 * e'.val + 256 ≤ 256 * e.val
    omega

/-- After one store of each expert's rows, each expert's rows are its payload. -/
theorem rowsOf_all (P : Fin 8 → Vec F S256x768 t) (p0 p1 p2 p3 p4 p5 p6 p7 : Vec F S256x768 t)
    (e0 : p0 = P 0) (e1 : p1 = P 1) (e2 : p2 = P 2) (e3 : p3 = P 3) (e4 : p4 = P 4) (e5 : p5 = P 5) (e6 : p6 = P 6) (e7 : p7 = P 7)
    (b0 : ∀ a, (![0, 0] : Fin 2 → ℕ) a + S256x768.size a ≤ S2048x768.size a) (b1 : ∀ a, (![256, 0] : Fin 2 → ℕ) a + S256x768.size a ≤ S2048x768.size a)
    (b2 : ∀ a, (![512, 0] : Fin 2 → ℕ) a + S256x768.size a ≤ S2048x768.size a) (b3 : ∀ a, (![768, 0] : Fin 2 → ℕ) a + S256x768.size a ≤ S2048x768.size a)
    (b4 : ∀ a, (![1024, 0] : Fin 2 → ℕ) a + S256x768.size a ≤ S2048x768.size a) (b5 : ∀ a, (![1280, 0] : Fin 2 → ℕ) a + S256x768.size a ≤ S2048x768.size a)
    (b6 : ∀ a, (![1536, 0] : Fin 2 → ℕ) a + S256x768.size a ≤ S2048x768.size a) (b7 : ∀ a, (![1792, 0] : Fin 2 → ℕ) a + S256x768.size a ≤ S2048x768.size a)
    (e : Fin 8) :
    rowsOf M (M.view.writes (Elt F) f
      [⟨Rect.unit (s := S2048x768) ![1792, 0] S256x768.size b7, p7⟩, ⟨Rect.unit (s := S2048x768) ![1536, 0] S256x768.size b6, p6⟩,
       ⟨Rect.unit (s := S2048x768) ![1280, 0] S256x768.size b5, p5⟩, ⟨Rect.unit (s := S2048x768) ![1024, 0] S256x768.size b4, p4⟩,
       ⟨Rect.unit (s := S2048x768) ![768, 0] S256x768.size b3, p3⟩, ⟨Rect.unit (s := S2048x768) ![512, 0] S256x768.size b2, p2⟩,
       ⟨Rect.unit (s := S2048x768) ![256, 0] S256x768.size b1, p1⟩, ⟨Rect.unit (s := S2048x768) ![0, 0] S256x768.size b0, p0⟩]) e = P e := by
  subst e0 e1 e2 e3 e4 e5 e6 e7
  rw [rowsOf_cons M f 7 e (off := ![1792, 0]) rfl, rowsOf_cons M f 6 e (off := ![1536, 0]) rfl, rowsOf_cons M f 5 e (off := ![1280, 0]) rfl, rowsOf_cons M f 4 e (off := ![1024, 0]) rfl, rowsOf_cons M f 3 e (off := ![768, 0]) rfl,
    rowsOf_cons M f 2 e (off := ![512, 0]) rfl, rowsOf_cons M f 1 e (off := ![256, 0]) rfl, rowsOf_cons M f 0 e (off := ![0, 0]) rfl]
  split_ifs with h7 h6 h5 h4 h3 h2 h1 h0 <;> (try subst_vars; try rfl)
  exact absurd (show e = 0 by omega) h0

end Rows

/-! ## Loads of what a store or a transfer left -/

/-- A slab of the layout buffer, loaded after the whole of it was stored. -/
theorem slab_read (p : Vec F S8x512x256 .bf16) (e : Fin 8) (inb) {off : Fin 3 → ℕ} (hoff : off = off3 e) (inb') :
    tM.view.readCov [(⟨Rect.unit (s := S8x512x256) ![0, 0, 0] S8x512x256.size inb, p⟩ : View.Piece (Elt F) S8x512x256 .bf16)]
      (Rect.unit (s := S8x512x256) off S1x512x256.size inb').toLoadRect = slab p e := by
  subst hoff
  unfold View.readCov
  rw [View.readAt_unit tM.view _ inb' rfl (off3_inbT e), View.read_writes_full]
  rfl

/-- A slot loaded after its transfer: the row-major matching undone, what the source's block read. -/
theorem slot_read {sp : Space} {S T : Shape} {t : EltTy} (M : Memref sig .tc sp S t) (r : Rect S) (hr : ∀ a, r.stride a = 1)
    (hq : r.shape.Squeezes T) (f : ((M.slice r hr).squeeze T hq).view.ty.Contents (Elt F)) (p : Vec F T t) (x : T.Idx) :
    M.view.readAt (Elt F) r.toLoadRect (((M.slice r hr).squeeze T hq).view.writes (Elt F) f [⟨Rect.whole T, p⟩])
      (Shape.reshapeEquiv hq.numel_eq x) = p x :=
  congrFun (View.read_writes_whole ((M.slice r hr).squeeze T hq).view f p) x

/-- Expert `e`'s weight slot loaded after its transfer is the block of the array it came from. -/
theorem w1_read (X : w1A.view.ty.Contents (Elt F)) (e : Fin 8) (f : (w1S e).view.ty.Contents (Elt F)) {off : Fin 3 → ℕ} (hoff : off = off3 e) (inb) :
    w1M.view.readAt (Elt F) (Rect.unit (s := S8x768x384) off S1x768x384.size inb).toLoadRect
      ((w1S e).view.writes (Elt F) f [⟨Rect.whole S768x384, ReadAs.same.apply ((w1H e).view.read (Elt F) X)⟩]) = w1Blk X e := by
  subst hoff
  funext y
  obtain ⟨x, rfl⟩ := (Shape.reshapeEquiv (squeezes_S1x768x384_S768x384).numel_eq).surjective y
  exact slot_read w1M _ _ squeezes_S1x768x384_S768x384 f _ x
theorem w2_read (X : w2A.view.ty.Contents (Elt F)) (e : Fin 8) (f : (w2S e).view.ty.Contents (Elt F)) {off : Fin 3 → ℕ} (hoff : off = off3 e) (inb) :
    w2M.view.readAt (Elt F) (Rect.unit (s := S8x384x768) off S1x384x768.size inb).toLoadRect
      ((w2S e).view.writes (Elt F) f [⟨Rect.whole S384x768, ReadAs.same.apply ((w2H e).view.read (Elt F) X)⟩]) = w2Blk X e := by
  subst hoff
  funext y
  obtain ⟨x, rfl⟩ := (Shape.reshapeEquiv (squeezes_S1x384x768_S384x768).numel_eq).surjective y
  exact slot_read w2M _ _ squeezes_S1x384x768_S384x768 f _ x
/-- A combine slot loaded after its transfer lays out as the block it came from. -/
theorem cm_read (X : cmA.view.ty.Contents (Elt F)) (s : Fin 2) (q : Fin 4) (f : (cmS s).view.ty.Contents (Elt F)) {off : Fin 4 → ℕ} (hoff : off = offC s) (inb) :
    k0_pay37 (k0_pay36 (cmM.view.readAt (Elt F) (Rect.unit (s := S2x512x8x256) off S1x512x8x256.size inb).toLoadRect
      ((cmS s).view.writes (Elt F) f [⟨Rect.whole S512x8x256, ReadAs.same.apply ((cmH q).view.read (Elt F) X)⟩]))) = k0_pay12 (cmBlk X q) := by
  subst hoff
  have h : shapeCast S512x8x256 (cmM.view.readAt (Elt F) (Rect.unit (s := S2x512x8x256) (offC s) S1x512x8x256.size inb).toLoadRect
      ((cmS s).view.writes (Elt F) f [⟨Rect.whole S512x8x256, ReadAs.same.apply ((cmH q).view.read (Elt F) X)⟩])) shapeCasts_S1x512x8x256_S512x8x256
      = shapeCast S512x8x256 (cmBlk X q) shapeCasts_S512x8x256_S512x8x256 := by
    rw [shapeCast_self]
    funext x
    exact slot_read cmM _ _ squeezes_S1x512x8x256_S512x8x256 f _ x
  unfold k0_pay37 k0_pay36 k0_pay12
  dsimp only
  rw [h]

end Cert.KernelIdeal.Hand

end
-- ==== Proof.IdealRuns.lean ====
/-
  The body at a grid point of each phase: what it takes of the buffers, the staging blocks, the slots, blocks and
  semaphores of the transfers, and what it leaves there, for any continuation. The first point starts the weight
  transfers; the first four gather; the fourth starts the first two combine transfers; the middle eight run one expert
  each; the last four produce the output blocks, the first two of them starting one more combine transfer each.
-/
module

public import proofs.«01_k».proof.Proof.IdealSpec
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem lt8_0 : 0 < 8 := by decide
theorem lt8_1 : 1 < 8 := by decide
theorem lt8_2 : 2 < 8 := by decide
theorem lt8_3 : 3 < 8 := by decide
theorem lt8_4 : 4 < 8 := by decide
theorem lt8_5 : 5 < 8 := by decide
theorem lt8_6 : 6 < 8 := by decide
theorem lt8_7 : 7 < 8 := by decide
theorem lt4_0 : 0 < 4 := by decide
theorem lt4_1 : 1 < 4 := by decide
theorem lt2_0 : 0 < 2 := by decide
theorem lt2_1 : 1 < 2 := by decide

/-! ## The transfers' states -/

section States
variable (c : Dev nD) (XC : BufOf F c cmA) (X1 : BufOf F c w1A) (X2 : BufOf F c w2A)

/-- A weight transfer not in flight: its semaphore at zero, its block, its slot. -/
def w1Free (e : Fin 8) : sProp 𝕄 := iprop(cellP c (w1C e) ∗ heldP c (w1H e) X1 ∗ ∃ f, heldP c (w1S e) f)
def w2Free (e : Fin 8) : sProp 𝕄 := iprop(cellP c (w2C e) ∗ heldP c (w2H e) X2 ∗ ∃ f, heldP c (w2S e) f)
/-- A weight transfer in flight. -/
def w1Fly (e : Fin 8) : sProp 𝕄 := iprop(∃ f, flightP c nW (w1C e) (w1S e) (w1H e) X1 f)
def w2Fly (e : Fin 8) : sProp 𝕄 := iprop(∃ f, flightP c nW (w2C e) (w2S e) (w2H e) X2 f)
/-- A combine block at home: its semaphore at zero and the block. -/
def cmHome (q : Fin 4) : sProp 𝕄 := iprop(cellP c (cmC q) ∗ heldP c (cmH q) XC)
/-- A combine slot not waiting for a transfer. -/
def cmSlot (s : Fin 2) : sProp 𝕄 := iprop(∃ f, heldP c (cmS s) f)
/-- A combine transfer in flight to a slot. -/
def cmFly (q : Fin 4) (s : Fin 2) : sProp 𝕄 := iprop(∃ f, flightP c nC (cmC q) (cmS s) (cmH q) XC f)
/-- One assertion for each expert, in a row. -/
abbrev all8 (P : Fin 8 → sProp 𝕄) : sProp 𝕄 :=
  iprop(P ⟨0, lt8_0⟩ ∗ P ⟨1, lt8_1⟩ ∗ P ⟨2, lt8_2⟩ ∗ P ⟨3, lt8_3⟩ ∗ P ⟨4, lt8_4⟩ ∗ P ⟨5, lt8_5⟩ ∗ P ⟨6, lt8_6⟩ ∗ P ⟨7, lt8_7⟩)

end States

/-! ## Gathered rows, piece by piece -/

/-- Expert `e`'s rows, loaded. -/
theorem rows_load {sp : Space} {t : EltTy} (M : Memref sig .tc sp S2048x768 t) (f : M.view.ty.Contents (Elt F)) (e : Fin 8)
    {off : Fin 2 → ℕ} (hoff : off = offR e) (inb) :
    M.view.readAt (Elt F) (Rect.unit (s := S2048x768) off S256x768.size inb).toLoadRect f = rowsOf M f e :=
  View.readAt_unit M.view f inb hoff (offR_inb e)

/-! The body's expressions for the eight experts are one and the same. -/
section Same
variable (x : Vec F S512x768 .f32) (v : Vec F S1x512x256 .bf16) (a : Vec F S256x768 .f32)
theorem init0 : k0_pay15 x v = k0_pay5 (k0_pay13 x) v := rfl
theorem init1 : k0_pay18 x v = k0_pay5 (k0_pay13 x) v := rfl
theorem init2 : k0_pay21 (k0_pay13 x) v = k0_pay5 (k0_pay13 x) v := rfl
theorem init3 : k0_pay24 (k0_pay13 x) v = k0_pay5 (k0_pay13 x) v := rfl
theorem init4 : k0_pay27 (k0_pay13 x) v = k0_pay5 (k0_pay13 x) v := rfl
theorem init5 : k0_pay2 (k0_pay13 x) (k0_pay29 v) (constant S256x768 .f32 0x00000000#32) = k0_pay5 (k0_pay13 x) v := rfl
theorem init6 : k0_pay5 (k0_pay13 x) v = k0_pay5 (k0_pay13 x) v := rfl
theorem init7 : k0_pay8 (k0_pay13 x) v = k0_pay5 (k0_pay13 x) v := rfl
theorem add0 : k0_pay16 x v a = k0_pay6 (k0_pay13 x) v a := rfl
theorem add1 : k0_pay19 x v a = k0_pay6 (k0_pay13 x) v a := rfl
theorem add2 : k0_pay22 (k0_pay13 x) v a = k0_pay6 (k0_pay13 x) v a := rfl
theorem add3 : k0_pay25 (k0_pay13 x) v a = k0_pay6 (k0_pay13 x) v a := rfl
theorem add4 : k0_pay28 (k0_pay13 x) v a = k0_pay6 (k0_pay13 x) v a := rfl
theorem add5 : k0_pay3 (k0_pay13 x) (k0_pay29 v) (constant S256x768 .f32 0x00000000#32) a = k0_pay6 (k0_pay13 x) v a := rfl
theorem add6 : k0_pay6 (k0_pay13 x) v a = k0_pay6 (k0_pay13 x) v a := rfl
theorem add7 : k0_pay9 (k0_pay13 x) v a = k0_pay6 (k0_pay13 x) v a := rfl
end Same

theorem init_piece (e : Fin 8) (d : Vec F S512x8x256 .f32) (x x' : Vec F S512x768 .f32) (v : Vec F S1x512x256 .bf16)
    (hx : x' = x) (hv : v = slab (k0_pay12 d) e) : k0_pay5 (k0_pay13 x') v = accInit d x e := by
  subst hx hv; rfl
theorem add_piece (e : Fin 8) (d : Vec F S512x8x256 .f32) (x x' : Vec F S512x768 .f32) (v : Vec F S1x512x256 .bf16) (a a' : Vec F S256x768 .f32)
    (hx : x' = x) (hv : v = slab (k0_pay12 d) e) (ha : a' = a) : k0_pay6 (k0_pay13 x') v a' = accAdd d x e a := by
  subst hx hv ha; rfl

section Body
variable (c : Dev nD) (i : grid0.Coords)
  (a1 : Memref sig .tc .vmem S512x8x256 .f32) (h1 : a1.IsWhole) (a3 : Memref sig .tc .vmem S512x768 .f32) (h3 : a3.IsWhole)
  (a5 : Memref sig .tc .vmem S1x1x384 .f32) (h5 : a5.IsWhole) (a7 : Memref sig .tc .vmem S1x1x768 .f32) (h7 : a7.IsWhole)
  (a8 : Memref sig .tc .vmem S512x768 .f32) (h8 : a8.IsWhole)
  (XC : BufOf F c cmA) (X1 : BufOf F c w1A) (X2 : BufOf F c w2A)

/-- The kernel body at a grid point on given staging buffers. -/
abbrev bodyG : Prog (TpuEff nD τ sig (Elt F) Λ₀ .tc) PUnit :=
  cc0_body i a1 h1 cmA (Memref.isWhole_whole _) a3 h3 w1A (Memref.isWhole_whole _) a5 h5 w2A (Memref.isWhole_whole _) a7 h7 a8 h8
    accM (Memref.isWhole_whole _) tM (Memref.isWhole_whole _) w1M (Memref.isWhole_whole _) w2M (Memref.isWhole_whole _)
    yM (Memref.isWhole_whole _) cmM (Memref.isWhole_whole _) cc0_scratch6 cc0_scratch7 cc0_scratch8

theorem slab_of_load (f1 : BufOf F c a1) (e : Fin 8) {off : Fin 3 → ℕ} (hoff : off = off3 e) (inb inb' inb'') :
    tM.view.readCov [(⟨Rect.unit (s := S8x512x256) ![0, 0, 0] S8x512x256.size inb,
        k0_pay12 (a1.view.readAt (Elt F) (Rect.unit (s := S512x8x256) ![0, 0, 0] S512x8x256.size inb'').toLoadRect f1)⟩ : View.Piece (Elt F) S8x512x256 .bf16)]
      (Rect.unit (s := S8x512x256) off S1x512x256.size inb').toLoadRect = slab (k0_pay12 (a1.view.read (Elt F) f1)) e := by
  rw [slab_read _ e inb hoff inb', View.readAt_full]

/-- The first point: the weight transfers start, the rows are the first block's. -/
theorem firstRun (hi : (i 0).val = 0) (fa : BufOf F c accM) (ft : BufOf F c tM) (f1 : BufOf F c a1) (f3 : BufOf F c a3)
    (W : Waits sig Unit) (K : PUnit → sProp 𝕄) :
    iprop(wholeP c accM fa ∗ wholeP c tM ft ∗ heldP c a1 f1 ∗ heldP c a3 f3
        ∗ all8 (w1Free c X1) ∗ all8 (w2Free c X2) ∗ owes (c : Thread nD τ) 0 W
        ∗ (iprop((∃ f, wholeP c accM f ∗ ⌜∀ e, rowsOf accM f e = accInit (a1.view.read (Elt F) f1) (a3.view.read (Elt F) f3) e⌝) ∗ (∃ f, wholeP c tM f) ∗ heldP c a1 f1 ∗ heldP c a3 f3
        ∗ all8 (w1Fly c X1) ∗ all8 (w2Fly c X2) ∗ (∃ W', owes (c : Thread nD τ) 0 W')) -∗ K ⟨⟩))
      ⊢ wp frame (wpE (defs₀ (F := F)) Variants.none c none) Set.univ (bodyG i a1 h1 a3 h3 a5 h5 a7 h7 a8 h8) K := by
  unfold all8 w1Free w2Free w1Fly w2Fly
  have c1 := (eq_iff i).mpr (by omega)
  have c1' := mt (ne_iff i).mp (by omega)
  have c2 := mt (eq3_iff i).mp (by omega)
  have c3 := (lt4_iff i).mpr (by omega)
  have c20 := mt (cond20_iff i).mp (by omega)
  have c21 := mt (cond21_iff i).mp (by omega)
  dsimp only [bodyG]
  simp only [cc0_body_eq_skeleton]; unfold cc0_body_skel
  iintro ⟨Ha, Ht, H1, H3, ⟨⟨C10, P10, %g10, S10⟩, ⟨C11, P11, %g11, S11⟩, ⟨C12, P12, %g12, S12⟩, ⟨C13, P13, %g13, S13⟩, ⟨C14, P14, %g14, S14⟩, ⟨C15, P15, %g15, S15⟩, ⟨C16, P16, %g16, S16⟩, ⟨C17, P17, %g17, S17⟩⟩, ⟨⟨C20, P20, %g20, S20⟩, ⟨C21, P21, %g21, S21⟩, ⟨C22, P22, %g22, S22⟩, ⟨C23, P23, %g23, S23⟩, ⟨C24, P24, %g24, S24⟩, ⟨C25, P25, %g25, S25⟩, ⟨C26, P26, %g26, S26⟩, ⟨C27, P27, %g27, S27⟩⟩, HW, Hk⟩
  sl_exec
  sl_step
  iapply Hk
  isplitl [Ha]
  · iexists _
    isplitl [Ha]
    · iexact Ha
    ipureintro
    refine rowsOf_all accM fa (fun e => accInit (a1.view.read (Elt F) f1) (a3.view.read (Elt F) f3) e) _ _ _ _ _ _ _ _ ?_ ?_ ?_ ?_ ?_ ?_ ?_ ?_ _ _ _ _ _ _ _ _
    · exact (init0 _ _).trans (init_piece 0 _ _ _ _ (View.readAt_full _ _ _) (slab_of_load c a1 f1 0 rfl _ _ _))
    · exact (init1 _ _).trans (init_piece 1 _ _ _ _ (View.readAt_full _ _ _) (slab_of_load c a1 f1 1 rfl _ _ _))
    · exact (init2 _ _).trans (init_piece 2 _ _ _ _ (View.readAt_full _ _ _) (slab_of_load c a1 f1 2 rfl _ _ _))
    · exact (init3 _ _).trans (init_piece 3 _ _ _ _ (View.readAt_full _ _ _) (slab_of_load c a1 f1 3 rfl _ _ _))
    · exact (init4 _ _).trans (init_piece 4 _ _ _ _ (View.readAt_full _ _ _) (slab_of_load c a1 f1 4 rfl _ _ _))
    · exact (init5 _ _).trans (init_piece 5 _ _ _ _ (View.readAt_full _ _ _) (slab_of_load c a1 f1 5 rfl _ _ _))
    · exact (init6 _ _).trans (init_piece 6 _ _ _ _ (View.readAt_full _ _ _) (slab_of_load c a1 f1 6 rfl _ _ _))
    · exact (init7 _ _).trans (init_piece 7 _ _ _ _ (View.readAt_full _ _ _) (slab_of_load c a1 f1 7 rfl _ _ _))
  isplitl [Ht]
  · iexists _; iexact Ht
  isplitl [H1]
  · iexact H1
  isplitl [H3]
  · iexact H3
  isplitl [C10 C11 C12 C13 C14 C15 C16 C17]
  · isplitl [C10]
    · iexists _; iexact C10
    isplitl [C11]
    · iexists _; iexact C11
    isplitl [C12]
    · iexists _; iexact C12
    isplitl [C13]
    · iexists _; iexact C13
    isplitl [C14]
    · iexists _; iexact C14
    isplitl [C15]
    · iexists _; iexact C15
    isplitl [C16]
    · iexists _; iexact C16
    iexists _; iexact C17
  isplitl [C20 C21 C22 C23 C24 C25 C26 C27]
  · isplitl [C20]
    · iexists _; iexact C20
    isplitl [C21]
    · iexists _; iexact C21
    isplitl [C22]
    · iexists _; iexact C22
    isplitl [C23]
    · iexists _; iexact C23
    isplitl [C24]
    · iexists _; iexact C24
    isplitl [C25]
    · iexists _; iexact C25
    isplitl [C26]
    · iexists _; iexact C26
    iexists _; iexact C27
  iexists _; iexact HW

/-- A gathering point that starts no transfer. -/
theorem accRun (hi : 1 ≤ (i 0).val ∧ (i 0).val < 3) (fa : BufOf F c accM) (ft : BufOf F c tM) (f1 : BufOf F c a1) (f3 : BufOf F c a3)
    (W : Waits sig Unit) (K : PUnit → sProp 𝕄) :
    iprop(wholeP c accM fa ∗ wholeP c tM ft ∗ heldP c a1 f1 ∗ heldP c a3 f3 ∗ owes (c : Thread nD τ) 0 W
        ∗ (iprop((∃ f, wholeP c accM f ∗ ⌜∀ e, rowsOf accM f e = accAdd (a1.view.read (Elt F) f1) (a3.view.read (Elt F) f3) e (rowsOf accM fa e)⌝) ∗ (∃ f, wholeP c tM f) ∗ heldP c a1 f1 ∗ heldP c a3 f3 ∗ (∃ W', owes (c : Thread nD τ) 0 W')) -∗ K ⟨⟩))
      ⊢ wp frame (wpE (defs₀ (F := F)) Variants.none c none) Set.univ (bodyG i a1 h1 a3 h3 a5 h5 a7 h7 a8 h8) K := by
  have c1 := mt (eq_iff i).mp (by omega)
  have c1' := (ne_iff i).mpr (by omega)
  have c2 := mt (eq3_iff i).mp (by omega)
  have c3 := (lt4_iff i).mpr (by omega)
  have c20 := mt (cond20_iff i).mp (by omega)
  have c21 := mt (cond21_iff i).mp (by omega)
  dsimp only [bodyG]
  simp only [cc0_body_eq_skeleton]; unfold cc0_body_skel
  iintro ⟨Ha, Ht, H1, H3, HW, Hk⟩
  sl_exec
  sl_step
  iapply Hk
  isplitl [Ha]
  · iexists _
    isplitl [Ha]
    · iexact Ha
    ipureintro
    refine rowsOf_all accM fa (fun e => accAdd (a1.view.read (Elt F) f1) (a3.view.read (Elt F) f3) e (rowsOf accM fa e)) _ _ _ _ _ _ _ _ ?_ ?_ ?_ ?_ ?_ ?_ ?_ ?_ _ _ _ _ _ _ _ _
    · exact (add0 _ _ _).trans (add_piece 0 _ _ _ _ _ _ (View.readAt_full _ _ _) (slab_of_load c a1 f1 0 rfl _ _ _) (rows_load accM fa 0 rfl _))
    · exact (add1 _ _ _).trans (add_piece 1 _ _ _ _ _ _ (View.readAt_full _ _ _) (slab_of_load c a1 f1 1 rfl _ _ _) (rows_load accM fa 1 rfl _))
    · exact (add2 _ _ _).trans (add_piece 2 _ _ _ _ _ _ (View.readAt_full _ _ _) (slab_of_load c a1 f1 2 rfl _ _ _) (rows_load accM fa 2 rfl _))
    · exact (add3 _ _ _).trans (add_piece 3 _ _ _ _ _ _ (View.readAt_full _ _ _) (slab_of_load c a1 f1 3 rfl _ _ _) (rows_load accM fa 3 rfl _))
    · exact (add4 _ _ _).trans (add_piece 4 _ _ _ _ _ _ (View.readAt_full _ _ _) (slab_of_load c a1 f1 4 rfl _ _ _) (rows_load accM fa 4 rfl _))
    · exact (add5 _ _ _).trans (add_piece 5 _ _ _ _ _ _ (View.readAt_full _ _ _) (slab_of_load c a1 f1 5 rfl _ _ _) (rows_load accM fa 5 rfl _))
    · exact (add6 _ _ _).trans (add_piece 6 _ _ _ _ _ _ (View.readAt_full _ _ _) (slab_of_load c a1 f1 6 rfl _ _ _) (rows_load accM fa 6 rfl _))
    · exact (add7 _ _ _).trans (add_piece 7 _ _ _ _ _ _ (View.readAt_full _ _ _) (slab_of_load c a1 f1 7 rfl _ _ _) (rows_load accM fa 7 rfl _))
  isplitl [Ht]
  · iexists _; iexact Ht
  isplitl [H1]
  · iexact H1
  isplitl [H3]
  · iexact H3
  iexists _; iexact HW

/-- The gathering point that starts the first two combine transfers. -/
theorem cmStartRun (hi : (i 0).val = 3) (fa : BufOf F c accM) (ft : BufOf F c tM) (f1 : BufOf F c a1) (f3 : BufOf F c a3)
    (W : Waits sig Unit) (K : PUnit → sProp 𝕄) :
    iprop(wholeP c accM fa ∗ wholeP c tM ft ∗ heldP c a1 f1 ∗ heldP c a3 f3
        ∗ cmHome c XC ⟨0, lt4_0⟩ ∗ cmSlot c ⟨0, lt2_0⟩ ∗ cmHome c XC ⟨1, lt4_1⟩ ∗ cmSlot c ⟨1, lt2_1⟩ ∗ owes (c : Thread nD τ) 0 W
        ∗ (iprop((∃ f, wholeP c accM f ∗ ⌜∀ e, rowsOf accM f e = accAdd (a1.view.read (Elt F) f1) (a3.view.read (Elt F) f3) e (rowsOf accM fa e)⌝) ∗ (∃ f, wholeP c tM f) ∗ heldP c a1 f1 ∗ heldP c a3 f3
        ∗ cmFly c XC ⟨0, lt4_0⟩ ⟨0, lt2_0⟩ ∗ cmFly c XC ⟨1, lt4_1⟩ ⟨1, lt2_1⟩ ∗ (∃ W', owes (c : Thread nD τ) 0 W')) -∗ K ⟨⟩))
      ⊢ wp frame (wpE (defs₀ (F := F)) Variants.none c none) Set.univ (bodyG i a1 h1 a3 h3 a5 h5 a7 h7 a8 h8) K := by
  unfold cmHome cmSlot cmFly
  have c1 := mt (eq_iff i).mp (by omega)
  have c1' := (ne_iff i).mpr (by omega)
  have c2 := (eq3_iff i).mpr (by omega)
  have c3 := (lt4_iff i).mpr (by omega)
  have c20 := mt (cond20_iff i).mp (by omega)
  have c21 := mt (cond21_iff i).mp (by omega)
  dsimp only [bodyG]
  simp only [cc0_body_eq_skeleton]; unfold cc0_body_skel
  iintro ⟨Ha, Ht, H1, H3, ⟨C0, P0⟩, ⟨%g0, S0⟩, ⟨C1, P1⟩, ⟨%g1, S1⟩, HW, Hk⟩
  sl_exec
  sl_step
  iapply Hk
  isplitl [Ha]
  · iexists _
    isplitl [Ha]
    · iexact Ha
    ipureintro
    refine rowsOf_all accM fa (fun e => accAdd (a1.view.read (Elt F) f1) (a3.view.read (Elt F) f3) e (rowsOf accM fa e)) _ _ _ _ _ _ _ _ ?_ ?_ ?_ ?_ ?_ ?_ ?_ ?_ _ _ _ _ _ _ _ _
    · exact (add0 _ _ _).trans (add_piece 0 _ _ _ _ _ _ (View.readAt_full _ _ _) (slab_of_load c a1 f1 0 rfl _ _ _) (rows_load accM fa 0 rfl _))
    · exact (add1 _ _ _).trans (add_piece 1 _ _ _ _ _ _ (View.readAt_full _ _ _) (slab_of_load c a1 f1 1 rfl _ _ _) (rows_load accM fa 1 rfl _))
    · exact (add2 _ _ _).trans (add_piece 2 _ _ _ _ _ _ (View.readAt_full _ _ _) (slab_of_load c a1 f1 2 rfl _ _ _) (rows_load accM fa 2 rfl _))
    · exact (add3 _ _ _).trans (add_piece 3 _ _ _ _ _ _ (View.readAt_full _ _ _) (slab_of_load c a1 f1 3 rfl _ _ _) (rows_load accM fa 3 rfl _))
    · exact (add4 _ _ _).trans (add_piece 4 _ _ _ _ _ _ (View.readAt_full _ _ _) (slab_of_load c a1 f1 4 rfl _ _ _) (rows_load accM fa 4 rfl _))
    · exact (add5 _ _ _).trans (add_piece 5 _ _ _ _ _ _ (View.readAt_full _ _ _) (slab_of_load c a1 f1 5 rfl _ _ _) (rows_load accM fa 5 rfl _))
    · exact (add6 _ _ _).trans (add_piece 6 _ _ _ _ _ _ (View.readAt_full _ _ _) (slab_of_load c a1 f1 6 rfl _ _ _) (rows_load accM fa 6 rfl _))
    · exact (add7 _ _ _).trans (add_piece 7 _ _ _ _ _ _ (View.readAt_full _ _ _) (slab_of_load c a1 f1 7 rfl _ _ _) (rows_load accM fa 7 rfl _))
  isplitl [Ht]
  · iexists _; iexact Ht
  isplitl [H1]
  · iexact H1
  isplitl [H3]
  · iexact H3
  isplitl [C0]
  · iexists _; iexact C0
  isplitl [C1]
  · iexists _; iexact C1
  iexists _; iexact HW

/-- The network's result from equal parts. -/
theorem yVal_congr {a a' : Vec F S256x768 .f32} {w1 w1' : Vec F S1x768x384 .f32} {b1 b1' : Vec F S1x1x384 .f32} {w2 w2' : Vec F S1x384x768 .f32}
    {b2 b2' : Vec F S1x1x768 .f32} (ha : a' = a) (hw1 : w1' = w1) (hb1 : b1' = b1) (hw2 : w2' = w2) (hb2 : b2' = b2) :
    yVal a' w1' b1' w2' b2' = yVal a w1 b1 w2 b2 := by
  subst ha hw1 hb1 hw2 hb2; rfl

/-- The output block from equal slabs and rows. -/
theorem outVal_congr {t : Vec F S8x512x256 .bf16} {y : Fin 8 → Vec F S256x768 .bf16}
    {y0 y1 y2 y3 y4 y5 y6 y7 : Vec F S256x768 .bf16} (g0 : y0 = y 0) (g1 : y1 = y 1) (g2 : y2 = y 2) (g3 : y3 = y 3)
    (g4 : y4 = y 4) (g5 : y5 = y 5) (g6 : y6 = y 6) (g7 : y7 = y 7)
    {s0 s1 s2 s3 s4 s5 s6 s7 : Vec F S1x512x256 .bf16} (h0 : s0 = slab t 0) (h1 : s1 = slab t 1) (h2 : s2 = slab t 2) (h3 : s3 = slab t 3)
    (h4 : s4 = slab t 4) (h5 : s5 = slab t 5) (h6 : s6 = slab t 6) (h7 : s7 = slab t 7) :
    k0_pay11 (k0_pay38 s0 y0 s1 y1 s2 y2 s3 y3) (k0_pay39 s4) y4
      (constant S512x768 .f32 0x00000000#32) s5 y5 s6 y6 s7 y7 = outVal t y := by
  subst g0 g1 g2 g3 g4 g5 g6 g7 h0 h1 h2 h3 h4 h5 h6 h7; rfl

/-- A point of the middle phase: one expert's weights arrive and its rows go through its network. -/
theorem expertRun (hi : 4 ≤ (i 0).val ∧ (i 0).val < 12) (fa : BufOf F c accM) (fy : BufOf F c yM) (f5 : BufOf F c a5) (f7 : BufOf F c a7)
    (W : Waits sig Unit) (K : PUnit → sProp 𝕄) :
    iprop(wholeP c accM fa ∗ wholeP c yM fy ∗ heldP c a5 f5 ∗ heldP c a7 f7
        ∗ w1Fly c X1 (eOf i) ∗ w2Fly c X2 (eOf i) ∗ owes (c : Thread nD τ) 0 W
        ∗ (iprop(wholeP c accM fa ∗ (∃ f, wholeP c yM f ∗ ⌜rowsOf yM f (eOf i) = yVal (rowsOf accM fa (eOf i)) (w1Blk X1 (eOf i)) (a5.view.read (Elt F) f5) (w2Blk X2 (eOf i)) (a7.view.read (Elt F) f7)
            ∧ ∀ e, e ≠ eOf i → rowsOf yM f e = rowsOf yM fy e⌝) ∗ heldP c a5 f5 ∗ heldP c a7 f7
        ∗ w1Free c X1 (eOf i) ∗ w2Free c X2 (eOf i) ∗ (∃ W', owes (c : Thread nD τ) 0 W')) -∗ K ⟨⟩))
      ⊢ wp frame (wpE (defs₀ (F := F)) Variants.none c none) Set.univ (bodyG i a1 h1 a3 h3 a5 h5 a7 h7 a8 h8) K := by
  unfold w1Fly w2Fly w1Free w2Free
  have c1 := mt (eq_iff i).mp (by omega)
  have c2 := mt (eq3_iff i).mp (by omega)
  have c3 := mt (lt4_iff i).mp (by omega)
  have c20 := (cond20_iff i).mpr (by omega)
  have c21 := mt (cond21_iff i).mp (by omega)
  haveI : Fact (k0_cond20 i = 1#1) := ⟨c20⟩
  dsimp only [bodyG]
  simp only [cc0_body_eq_skeleton]; unfold cc0_body_skel
  iintro ⟨Ha, Hy, H5, H7, ⟨%g1, HF1⟩, ⟨%g2, HF2⟩, HW, Hk⟩
  sl_exec
  sl_step
  iapply Hk
  isplitl [Ha]
  · iexact Ha
  isplitl [Hy]
  · iexists _
    isplitl [Hy]
    · iexact Hy
    ipureintro
    refine ⟨?_, fun e he => ?_⟩
    · rw [rowsOf_cons yM fy (eOf i) (eOf i) (koff4 i c20), if_pos rfl]
      exact yVal_congr (View.readAt_unit _ _ _ (koff4 i c20) _) (w1_read X1 (eOf i) _ (koff5 i c20) _) (View.readAt_full _ _ _)
        (w2_read X2 (eOf i) _ (koff6 i c20) _) (View.readAt_full _ _ _)
    · rw [rowsOf_cons yM fy (eOf i) e (koff4 i c20), if_neg he]; rfl
  isplitl [H5]
  · iexact H5
  isplitl [H7]
  · iexact H7
  isplitl [HF1 HF1_dst HF1_src]
  · isplitl [HF1]
    · iexact HF1
    isplitl [HF1_src]
    · iexact HF1_src
    iexists _; iexact HF1_dst
  isplitl [HF2 HF2_dst HF2_src]
  · isplitl [HF2]
    · iexact HF2
    isplitl [HF2_src]
    · iexact HF2_src
    iexists _; iexact HF2_dst
  iexists _; iexact HW

/-- A slab of the combine block, loaded from the layout buffer after the slot's block was stored there. -/
theorem slab_of_slot (s : Fin 2) (q : Fin 4) (f : (cmS s).view.ty.Contents (Elt F)) (e : Fin 8) {off : Fin 3 → ℕ} (hoff : off = off3 e)
    {offs : Fin 4 → ℕ} (hoffs : offs = offC s) (inb inb' inb'') :
    tM.view.readCov [(⟨Rect.unit (s := S8x512x256) ![0, 0, 0] S8x512x256.size inb,
        k0_pay37 (k0_pay36 (cmM.view.readAt (Elt F) (Rect.unit (s := S2x512x8x256) offs S1x512x8x256.size inb'').toLoadRect
          ((cmS s).view.writes (Elt F) f [⟨Rect.whole S512x8x256, ReadAs.same.apply ((cmH q).view.read (Elt F) XC)⟩])))⟩ : View.Piece (Elt F) S8x512x256 .bf16)]
      (Rect.unit (s := S8x512x256) off S1x512x256.size inb').toLoadRect = slab (k0_pay12 (cmBlk XC q)) e := by
  rw [slab_read _ e inb hoff inb', cm_read XC s q f hoffs]

/-- A point of the last phase that starts one more combine transfer into the slot it has read. -/
theorem outRunNext (hi : 12 ≤ (i 0).val ∧ (i 0).val < 14) (fy : BufOf F c yM) (ft : BufOf F c tM) (f8 : BufOf F c a8)
    (W : Waits sig Unit) (K : PUnit → sProp 𝕄) :
    iprop(wholeP c yM fy ∗ wholeP c tM ft ∗ heldP c a8 f8
        ∗ cmFly c XC (qOf i) (sOf i) ∗ cmHome c XC (qNext i) ∗ owes (c : Thread nD τ) 0 W
        ∗ (iprop(wholeP c yM fy ∗ (∃ f, wholeP c tM f) ∗ (∃ f, heldP c a8 f ∗ ⌜a8.view.read (Elt F) f = outVal (k0_pay12 (cmBlk XC (qOf i))) (rowsOf yM fy)⌝)
        ∗ cmHome c XC (qOf i) ∗ cmFly c XC (qNext i) (sOf i) ∗ (∃ W', owes (c : Thread nD τ) 0 W')) -∗ K ⟨⟩))
      ⊢ wp frame (wpE (defs₀ (F := F)) Variants.none c none) Set.univ (bodyG i a1 h1 a3 h3 a5 h5 a7 h7 a8 h8) K := by
  unfold cmFly cmHome
  have c1 := mt (eq_iff i).mp (by omega)
  have c2 := mt (eq3_iff i).mp (by omega)
  have c3 := mt (lt4_iff i).mp (by omega)
  have c20 := mt (cond20_iff i).mp (by omega)
  have c21 := (cond21_iff i).mpr (by omega)
  have c22 := (cond22_iff i (by omega)).mpr (by omega)
  haveI : Fact (k0_cond21 i = 1#1) := ⟨c21⟩
  dsimp only [bodyG]
  simp only [cc0_body_eq_skeleton]; unfold cc0_body_skel
  iintro ⟨Hy, Ht, H8, ⟨%g, HF⟩, ⟨C2, P2⟩, HW, Hk⟩
  sl_exec
  sl_step
  iapply Hk
  isplitl [Hy]
  · iexact Hy
  isplitl [Ht]
  · iexists _; iexact Ht
  isplitl [H8]
  · iexists _
    isplitl [H8]
    · iexact H8
    ipureintro
    refine (View.read_writes_full a8.view f8 _ _ []).trans ?_
    exact outVal_congr
      (rows_load yM fy 0 rfl _)
      (rows_load yM fy 1 rfl _)
      (rows_load yM fy 2 rfl _)
      (rows_load yM fy 3 rfl _)
      (rows_load yM fy 4 rfl _)
      (rows_load yM fy 5 rfl _)
      (rows_load yM fy 6 rfl _)
      (rows_load yM fy 7 rfl _)
      (slab_of_slot c XC (sOf i) (qOf i) _ 0 rfl (koff10 i c21) _ _ _)
      (slab_of_slot c XC (sOf i) (qOf i) _ 1 rfl (koff10 i c21) _ _ _)
      (slab_of_slot c XC (sOf i) (qOf i) _ 2 rfl (koff10 i c21) _ _ _)
      (slab_of_slot c XC (sOf i) (qOf i) _ 3 rfl (koff10 i c21) _ _ _)
      (slab_of_slot c XC (sOf i) (qOf i) _ 4 rfl (koff10 i c21) _ _ _)
      (slab_of_slot c XC (sOf i) (qOf i) _ 5 rfl (koff10 i c21) _ _ _)
      (slab_of_slot c XC (sOf i) (qOf i) _ 6 rfl (koff10 i c21) _ _ _)
      (slab_of_slot c XC (sOf i) (qOf i) _ 7 rfl (koff10 i c21) _ _ _)
  isplitl [HF HF_src]
  · isplitl [HF]
    · iexact HF
    iexact HF_src
  isplitl [C2]
  · iexists (landed c (cmS (sOf i)) (cmH (qOf i)) XC (cmS (sOf i)).view.junk); iexact C2
  iexists _; iexact HW

/-- One of the last two points. -/
theorem outRun (hi : 14 ≤ (i 0).val) (fy : BufOf F c yM) (ft : BufOf F c tM) (f8 : BufOf F c a8)
    (W : Waits sig Unit) (K : PUnit → sProp 𝕄) :
    iprop(wholeP c yM fy ∗ wholeP c tM ft ∗ heldP c a8 f8
        ∗ cmFly c XC (qOf i) (sOf i) ∗ owes (c : Thread nD τ) 0 W
        ∗ (iprop(wholeP c yM fy ∗ (∃ f, wholeP c tM f) ∗ (∃ f, heldP c a8 f ∗ ⌜a8.view.read (Elt F) f = outVal (k0_pay12 (cmBlk XC (qOf i))) (rowsOf yM fy)⌝)
        ∗ cmHome c XC (qOf i) ∗ cmSlot c (sOf i) ∗ (∃ W', owes (c : Thread nD τ) 0 W')) -∗ K ⟨⟩))
      ⊢ wp frame (wpE (defs₀ (F := F)) Variants.none c none) Set.univ (bodyG i a1 h1 a3 h3 a5 h5 a7 h7 a8 h8) K := by
  unfold cmFly cmHome cmSlot
  have c1 := mt (eq_iff i).mp (by omega)
  have c2 := mt (eq3_iff i).mp (by omega)
  have c3 := mt (lt4_iff i).mp (by omega)
  have c20 := mt (cond20_iff i).mp (by omega)
  have c21 := (cond21_iff i).mpr (by omega)
  have c22 := mt (cond22_iff i (by omega)).mp (by omega)
  haveI : Fact (k0_cond21 i = 1#1) := ⟨c21⟩
  dsimp only [bodyG]
  simp only [cc0_body_eq_skeleton]; unfold cc0_body_skel
  iintro ⟨Hy, Ht, H8, ⟨%g, HF⟩, HW, Hk⟩
  sl_exec
  sl_step
  iapply Hk
  isplitl [Hy]
  · iexact Hy
  isplitl [Ht]
  · iexists _; iexact Ht
  isplitl [H8]
  · iexists _
    isplitl [H8]
    · iexact H8
    ipureintro
    refine (View.read_writes_full a8.view f8 _ _ []).trans ?_
    exact outVal_congr
      (rows_load yM fy 0 rfl _)
      (rows_load yM fy 1 rfl _)
      (rows_load yM fy 2 rfl _)
      (rows_load yM fy 3 rfl _)
      (rows_load yM fy 4 rfl _)
      (rows_load yM fy 5 rfl _)
      (rows_load yM fy 6 rfl _)
      (rows_load yM fy 7 rfl _)
      (slab_of_slot c XC (sOf i) (qOf i) _ 0 rfl (koff10 i c21) _ _ _)
      (slab_of_slot c XC (sOf i) (qOf i) _ 1 rfl (koff10 i c21) _ _ _)
      (slab_of_slot c XC (sOf i) (qOf i) _ 2 rfl (koff10 i c21) _ _ _)
      (slab_of_slot c XC (sOf i) (qOf i) _ 3 rfl (koff10 i c21) _ _ _)
      (slab_of_slot c XC (sOf i) (qOf i) _ 4 rfl (koff10 i c21) _ _ _)
      (slab_of_slot c XC (sOf i) (qOf i) _ 5 rfl (koff10 i c21) _ _ _)
      (slab_of_slot c XC (sOf i) (qOf i) _ 6 rfl (koff10 i c21) _ _ _)
      (slab_of_slot c XC (sOf i) (qOf i) _ 7 rfl (koff10 i c21) _ _ _)
  isplitl [HF HF_src]
  · isplitl [HF]
    · iexact HF
    iexact HF_src
  isplitl [HF_dst]
  · iexists _; iexact HF_dst
  iexists _; iexact HW

end Body

end Cert.KernelIdeal.Hand

end
-- ==== Proof.IdealState.lean ====
/-
  What is held between grid points: the rows gathered so far, the experts' outputs so far, and where each of the
  kernel's own transfers stands. How a point of each phase moves it on, what it is at entry and what it gives at exit.
-/
module

public import proofs.«01_k».proof.Proof.IdealRuns
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One or two terms of a family change -/

theorem upd1 {I : Type} [Fintype I] [DecidableEq I] (A B : I → sProp 𝕄) (i : I) (h : ∀ j, j ≠ i → A j = B j) :
    bigSep Finset.univ A ⊢ iprop(A i ∗ (B i -∗ bigSep Finset.univ B)) := by
  rw [bigSep_univ_at A i, bigSep_univ_at B i, bigSep_congr (s := Finset.univ.erase i) (fun j hj => h j (Finset.ne_of_mem_erase hj))]
  iintro ⟨Hi, Hr⟩
  isplitl [Hi]
  · iexact Hi
  · iintro Hb
    isplitl [Hb]
    · iexact Hb
    · iexact Hr

theorem upd2 {I : Type} [Fintype I] [DecidableEq I] (A B : I → sProp 𝕄) (i k : I) (hk : k ≠ i) (h : ∀ j, j ≠ i → j ≠ k → A j = B j) :
    bigSep Finset.univ A ⊢ iprop(A i ∗ A k ∗ (B i -∗ B k -∗ bigSep Finset.univ B)) := by
  have hm : k ∈ Finset.univ.erase i := Finset.mem_erase.mpr ⟨hk, Finset.mem_univ _⟩
  rw [bigSep_univ_at A i, bigSep_univ_at B i,
    show bigSep (Finset.univ.erase i) A = iprop(A k ∗ bigSep ((Finset.univ.erase i).erase k) A) from bigSep_erase hm,
    show bigSep (Finset.univ.erase i) B = iprop(B k ∗ bigSep ((Finset.univ.erase i).erase k) B) from bigSep_erase hm,
    bigSep_congr (s := (Finset.univ.erase i).erase k) (fun j hj => h j (Finset.ne_of_mem_erase (Finset.mem_of_mem_erase hj)) (Finset.ne_of_mem_erase hj))]
  iintro ⟨Hi, Hk, Hr⟩
  isplitl [Hi]
  · iexact Hi
  isplitl [Hk]
  · iexact Hk
  iintro Hb Hd
  isplitl [Hb]
  · iexact Hb
  isplitl [Hd]
  · iexact Hd
  · iexact Hr

theorem all8_eq (A : Fin 8 → sProp 𝕄) : bigSep Finset.univ A = all8 A := by
  rw [bigSep_univ_eq_bigSepL [⟨0, lt8_0⟩, ⟨1, lt8_1⟩, ⟨2, lt8_2⟩, ⟨3, lt8_3⟩, ⟨4, lt8_4⟩, ⟨5, lt8_5⟩, ⟨6, lt8_6⟩, ⟨7, lt8_7⟩] (by decide) (by decide) A]
  rfl

/-! ## Where the transfers stand before point `n` -/

section Stand
variable (c : Dev nD) (XC : BufOf F c cmA) (X1 : BufOf F c w1A) (X2 : BufOf F c w2A)

/-- A weight transfer is in flight from the first point to its expert's. -/
def w1St (n : ℕ) (e : Fin 8) : sProp 𝕄 := if 0 < n ∧ n ≤ 4 + e.val then w1Fly c X1 e else w1Free c X1 e
def w2St (n : ℕ) (e : Fin 8) : sProp 𝕄 := if 0 < n ∧ n ≤ 4 + e.val then w2Fly c X2 e else w2Free c X2 e
/-- The point after which a combine transfer is in flight. -/
def cmFrom (q : Fin 4) : ℕ := if q.val < 2 then 4 else 11 + q.val
/-- The slot of a row block. -/
def slotOf (q : Fin 4) : Fin 2 := ⟨q.val % 2, Nat.mod_lt _ (by decide)⟩
def cmBl (n : ℕ) (q : Fin 4) : sProp 𝕄 := if cmFrom q ≤ n ∧ n ≤ 12 + q.val then cmFly c XC q (slotOf q) else cmHome c XC q
def cmSl (n : ℕ) (s : Fin 2) : sProp 𝕄 := if n ≤ 3 ∨ 14 + s.val < n then cmSlot (F := F) c s else iprop(emp)

theorem w1_start (n : ℕ) (h : n = 0) :
    bigSep Finset.univ (w1St c X1 n) ⊢ iprop(all8 (w1Free c X1) ∗ (all8 (w1Fly c X1) -∗ bigSep Finset.univ (w1St c X1 (n + 1)))) := by
  subst h
  have h0 : w1St c X1 0 = w1Free c X1 := funext fun e => if_neg (by omega)
  have h1 : w1St c X1 (0 + 1) = w1Fly c X1 := funext fun e => if_pos (by omega)
  rw [h0, h1, all8_eq, all8_eq]
  iintro H
  isplitl [H]
  · iexact H
  · iintro H; iexact H
theorem w2_start (n : ℕ) (h : n = 0) :
    bigSep Finset.univ (w2St c X2 n) ⊢ iprop(all8 (w2Free c X2) ∗ (all8 (w2Fly c X2) -∗ bigSep Finset.univ (w2St c X2 (n + 1)))) := by
  subst h
  have h0 : w2St c X2 0 = w2Free c X2 := funext fun e => if_neg (by omega)
  have h1 : w2St c X2 (0 + 1) = w2Fly c X2 := funext fun e => if_pos (by omega)
  rw [h0, h1, all8_eq, all8_eq]
  iintro H
  isplitl [H]
  · iexact H
  · iintro H; iexact H

theorem w1_keep (n : ℕ) (h : 1 ≤ n ∧ n < 4 ∨ 12 ≤ n) : w1St c X1 (n + 1) = w1St c X1 n :=
  funext fun e => by have := e.isLt; unfold w1St; exact if_congr (by omega) rfl rfl
theorem w2_keep (n : ℕ) (h : 1 ≤ n ∧ n < 4 ∨ 12 ≤ n) : w2St c X2 (n + 1) = w2St c X2 n :=
  funext fun e => by have := e.isLt; unfold w2St; exact if_congr (by omega) rfl rfl

theorem w1_take (n : ℕ) (e : Fin 8) (h : n = e.val + 4) :
    bigSep Finset.univ (w1St c X1 n) ⊢ iprop(w1Fly c X1 e ∗ (w1Free c X1 e -∗ bigSep Finset.univ (w1St c X1 (n + 1)))) := by
  have h0 : w1St c X1 n e = w1Fly c X1 e := if_pos (by omega)
  have h1 : w1St c X1 (n + 1) e = w1Free c X1 e := if_neg (by omega)
  rw [← h0, ← h1]
  exact upd1 _ _ e fun j hj => by
    have := Fin.val_ne_of_ne hj; unfold w1St; exact if_congr (by omega) rfl rfl
theorem w2_take (n : ℕ) (e : Fin 8) (h : n = e.val + 4) :
    bigSep Finset.univ (w2St c X2 n) ⊢ iprop(w2Fly c X2 e ∗ (w2Free c X2 e -∗ bigSep Finset.univ (w2St c X2 (n + 1)))) := by
  have h0 : w2St c X2 n e = w2Fly c X2 e := if_pos (by omega)
  have h1 : w2St c X2 (n + 1) e = w2Free c X2 e := if_neg (by omega)
  rw [← h0, ← h1]
  exact upd1 _ _ e fun j hj => by
    have := Fin.val_ne_of_ne hj; unfold w2St; exact if_congr (by omega) rfl rfl

theorem cmBl_keep (n : ℕ) (h : n ≠ 3 ∧ n < 12) : cmBl c XC (n + 1) = cmBl c XC n :=
  funext fun q => by have := q.isLt; unfold cmBl cmFrom; exact if_congr (by split <;> omega) rfl rfl
theorem cmSl_keep (n : ℕ) (h : n ≠ 3 ∧ n < 14) : cmSl (F := F) c (n + 1) = cmSl c n :=
  funext fun s => by have := s.isLt; unfold cmSl; exact if_congr (by omega) rfl rfl

/-- The fourth point: the first two blocks leave for the two slots. -/
theorem cmBl_start (n : ℕ) (h : n = 3) : bigSep Finset.univ (cmBl c XC n) ⊢ iprop(cmHome c XC ⟨0, lt4_0⟩ ∗ cmHome c XC ⟨1, lt4_1⟩
    ∗ (cmFly c XC ⟨0, lt4_0⟩ ⟨0, lt2_0⟩ -∗ cmFly c XC ⟨1, lt4_1⟩ ⟨1, lt2_1⟩ -∗ bigSep Finset.univ (cmBl c XC (n + 1)))) := by
  subst h
  exact upd2 (cmBl c XC 3) (cmBl c XC (3 + 1)) ⟨0, lt4_0⟩ ⟨1, lt4_1⟩ (by decide) fun j h0 h1 => by
    have h0 := Fin.val_ne_of_ne h0; have h1 := Fin.val_ne_of_ne h1
    dsimp only at h0 h1
    unfold cmBl cmFrom; exact if_congr (by split <;> omega) rfl rfl
theorem cmSl_start (n : ℕ) (h : n = 3) : bigSep Finset.univ (cmSl (F := F) c n) ⊢ iprop(cmSlot c ⟨0, lt2_0⟩ ∗ cmSlot c ⟨1, lt2_1⟩
    ∗ bigSep Finset.univ (cmSl (F := F) c (n + 1))) := by
  subst h
  have h0 : cmSl (F := F) c 3 ⟨0, lt2_0⟩ = cmSlot c ⟨0, lt2_0⟩ := if_pos (by omega)
  have h1 : cmSl (F := F) c 3 ⟨1, lt2_1⟩ = cmSlot c ⟨1, lt2_1⟩ := if_pos (by omega)
  have h2 : cmSl (F := F) c (3 + 1) ⟨0, lt2_0⟩ = iprop(emp) := if_neg (by omega)
  have h3 : cmSl (F := F) c (3 + 1) ⟨1, lt2_1⟩ = iprop(emp) := if_neg (by omega)
  have h := upd2 (cmSl (F := F) c 3) (cmSl c (3 + 1)) ⟨0, lt2_0⟩ ⟨1, lt2_1⟩ (by decide) fun j h0 h1 => by
    have h0 := Fin.val_ne_of_ne h0; have h1 := Fin.val_ne_of_ne h1
    have := j.isLt
    dsimp only at h0 h1
    omega
  rw [h0, h1, h2, h3] at h
  refine h.trans ?_
  iintro ⟨H0, H1, H⟩
  isplitl [H0]
  · iexact H0
  isplitl [H1]
  · iexact H1
  iapply H
  · iempintro
  · iempintro

/-- The thirteenth and fourteenth: a block comes back, the block after next leaves for its slot. -/
theorem cmBl_next (n : ℕ) (q q' : Fin 4) (h : n = q.val + 12) (hq : q'.val = q.val + 2) :
    bigSep Finset.univ (cmBl c XC n) ⊢ iprop(cmFly c XC q (slotOf q) ∗ cmHome c XC q'
    ∗ (cmHome c XC q -∗ cmFly c XC q' (slotOf q) -∗ bigSep Finset.univ (cmBl c XC (n + 1)))) := by
  have hq4 := q'.isLt
  have h0 : cmBl c XC n q = cmFly c XC q (slotOf q) := if_pos (by unfold cmFrom; split <;> omega)
  have h1 : cmBl c XC n q' = cmHome c XC q' := if_neg (by unfold cmFrom; split <;> omega)
  have h2 : cmBl c XC (n + 1) q = cmHome c XC q := if_neg (by unfold cmFrom; split <;> omega)
  have hs : slotOf q' = slotOf q := Fin.ext (by show q'.val % 2 = q.val % 2; omega)
  have h3 : cmBl c XC (n + 1) q' = cmFly c XC q' (slotOf q) := by
    rw [← hs]; exact if_pos (by unfold cmFrom; split <;> omega)
  rw [← h0, ← h1, ← h2, ← h3]
  exact upd2 _ _ q q' (fun hh => by rw [hh] at hq; omega) fun j hj hj' => by
    have hj := Fin.val_ne_of_ne hj; have hj' := Fin.val_ne_of_ne hj'; have := j.isLt
    unfold cmBl cmFrom; exact if_congr (by split <;> omega) rfl rfl
/-- The last two: a block comes back, its slot stays. -/
theorem cmBl_last (n : ℕ) (q : Fin 4) (h : n = q.val + 12) (hq : 2 ≤ q.val) :
    bigSep Finset.univ (cmBl c XC n) ⊢ iprop(cmFly c XC q (slotOf q) ∗ (cmHome c XC q -∗ bigSep Finset.univ (cmBl c XC (n + 1)))) := by
  have h0 : cmBl c XC n q = cmFly c XC q (slotOf q) := if_pos (by unfold cmFrom; split <;> omega)
  have h2 : cmBl c XC (n + 1) q = cmHome c XC q := if_neg (by unfold cmFrom; split <;> omega)
  rw [← h0, ← h2]
  exact upd1 _ _ q fun j hj => by
    have hj := Fin.val_ne_of_ne hj; have := j.isLt
    unfold cmBl cmFrom; exact if_congr (by split <;> omega) rfl rfl
theorem cmSl_last (n : ℕ) (s : Fin 2) (h : n = s.val + 14) :
    bigSep Finset.univ (cmSl (F := F) c n) ⊢ iprop(cmSlot c s -∗ bigSep Finset.univ (cmSl (F := F) c (n + 1))) := by
  have h0 : cmSl (F := F) c n s = iprop(emp) := if_neg (by omega)
  have h1 : cmSl (F := F) c (n + 1) s = cmSlot c s := if_pos (by omega)
  rw [← h1]
  refine (upd1 _ (cmSl c (n + 1)) s fun j hj => by
    have := Fin.val_ne_of_ne hj; have := j.isLt; unfold cmSl; exact if_congr (by omega) rfl rfl).trans ?_
  iintro ⟨-, H⟩
  iexact H

/-! ## Entry and exit: buffers block by block -/

theorem w1H_set (e : Fin 8) : (w1H e).view.set = (Rect.unit (s := S8x768x384) (off3 e) S1x768x384.size (off3_inb1 e)).set :=
  (View.set_reshape _ _).trans (View.set_slice_whole _ _)
theorem w1S_set (e : Fin 8) : (w1S e).view.set = (Rect.unit (s := S8x768x384) (off3 e) S1x768x384.size (off3_inb1 e)).set :=
  (View.set_reshape _ _).trans (View.set_slice_whole _ _)
theorem w2H_set (e : Fin 8) : (w2H e).view.set = (Rect.unit (s := S8x384x768) (off3 e) S1x384x768.size (off3_inb2 e)).set :=
  (View.set_reshape _ _).trans (View.set_slice_whole _ _)
theorem w2S_set (e : Fin 8) : (w2S e).view.set = (Rect.unit (s := S8x384x768) (off3 e) S1x384x768.size (off3_inb2 e)).set :=
  (View.set_reshape _ _).trans (View.set_slice_whole _ _)
theorem cmS_set (s : Fin 2) : (cmS s).view.set = (Rect.unit (s := S2x512x8x256) (offC s) S1x512x8x256.size (offC_inb s)).set :=
  (View.set_reshape _ _).trans (View.set_slice_whole _ _)
theorem cmH_set (q : Fin 4) : (cmH q).view.set = (Rect.unit (s := S2048x8x256) (offH q) S512x8x256.size (offH_inb q)).set :=
  View.set_slice_whole _ _

/-- The eight experts' blocks of an array of that leading size. -/
theorem lead1 : (∀ b b', b ≠ b' → Disjoint (Rect.unit (s := S8x768x384) (off3 b) S1x768x384.size (off3_inb1 b)).set (Rect.unit (s := S8x768x384) (off3 b') S1x768x384.size (off3_inb1 b')).set)
    ∧ Finset.univ.biUnion (fun b => (Rect.unit (s := S8x768x384) (off3 b) S1x768x384.size (off3_inb1 b)).set) = Finset.univ :=
  ⟨Ring.lead_disjoint (s := S8x768x384) 0 1 off3 S1x768x384.size off3_inb1 (by decide) rfl,
    Ring.lead_cover (s := S8x768x384) 0 1 off3 S1x768x384.size off3_inb1 (by decide) (by decide) rfl (by decide) (by decide)⟩
theorem lead2 : (∀ b b', b ≠ b' → Disjoint (Rect.unit (s := S8x384x768) (off3 b) S1x384x768.size (off3_inb2 b)).set (Rect.unit (s := S8x384x768) (off3 b') S1x384x768.size (off3_inb2 b')).set)
    ∧ Finset.univ.biUnion (fun b => (Rect.unit (s := S8x384x768) (off3 b) S1x384x768.size (off3_inb2 b)).set) = Finset.univ :=
  ⟨Ring.lead_disjoint (s := S8x384x768) 0 1 off3 S1x384x768.size off3_inb2 (by decide) rfl,
    Ring.lead_cover (s := S8x384x768) 0 1 off3 S1x384x768.size off3_inb2 (by decide) (by decide) rfl (by decide) (by decide)⟩
theorem leadC : (∀ b b', b ≠ b' → Disjoint (Rect.unit (s := S2x512x8x256) (offC b) S1x512x8x256.size (offC_inb b)).set (Rect.unit (s := S2x512x8x256) (offC b') S1x512x8x256.size (offC_inb b')).set)
    ∧ Finset.univ.biUnion (fun b => (Rect.unit (s := S2x512x8x256) (offC b) S1x512x8x256.size (offC_inb b)).set) = Finset.univ :=
  ⟨Ring.lead_disjoint (s := S2x512x8x256) 0 1 offC S1x512x8x256.size offC_inb (by decide) rfl,
    Ring.lead_cover (s := S2x512x8x256) 0 1 offC S1x512x8x256.size offC_inb (by decide) (by decide) rfl (by decide) (by decide)⟩
theorem leadH : (∀ b b', b ≠ b' → Disjoint (Rect.unit (s := S2048x8x256) (offH b) S512x8x256.size (offH_inb b)).set (Rect.unit (s := S2048x8x256) (offH b') S512x8x256.size (offH_inb b')).set)
    ∧ Finset.univ.biUnion (fun b => (Rect.unit (s := S2048x8x256) (offH b) S512x8x256.size (offH_inb b)).set) = Finset.univ :=
  ⟨Ring.lead_disjoint (s := S2048x8x256) 0 512 offH S512x8x256.size offH_inb (by decide) rfl,
    Ring.lead_cover (s := S2048x8x256) 0 512 offH S512x8x256.size offH_inb (by decide) (by decide) rfl (by decide) (by decide)⟩

/-- A memref's elements by another name of their set. -/
theorem held_set {sp : Space} {S : Shape} {t : EltTy} (M : Memref sig .tc sp S t) (f : BufOf F c M) {I} (h : M.view.set = I) :
    heldP c M f = (M.view.loc (c : Thread nD τ) ↦[I]{fullShare} f) := by subst h; rfl
theorem exists_congr' {α : Type} {P Q : α → sProp 𝕄} (h : ∀ x, P x = Q x) : iprop(∃ x, P x) = iprop(∃ x, Q x) := by
  rw [show P = Q from funext h]

theorem held_some {sp : Space} {S : Shape} {t : EltTy} (M : Memref sig .tc sp S t) (f : BufOf F c M) :
    heldP c M f ⊢ iprop(∃ f, heldP (F := F) c M f) := by
  iintro H; iexists f; iexact H

def w1Slot (e : Fin 8) : sProp 𝕄 := iprop(∃ f, heldP (F := F) c (w1S e) f)
def w2Slot (e : Fin 8) : sProp 𝕄 := iprop(∃ f, heldP (F := F) c (w2S e) f)

theorem w1H_blocks : wholeP c w1A X1 = bigSep Finset.univ fun e => heldP c (w1H e) X1 :=
  (Ring.pointsTo_blocks _ lead1.1 lead1.2 X1).trans (bigSep_congr fun e _ => (held_set c _ _ (w1H_set e)).symm)
theorem w2H_blocks : wholeP c w2A X2 = bigSep Finset.univ fun e => heldP c (w2H e) X2 :=
  (Ring.pointsTo_blocks _ lead2.1 lead2.2 X2).trans (bigSep_congr fun e _ => (held_set c _ _ (w2H_set e)).symm)
theorem cmH_blocks : wholeP c cmA XC = bigSep Finset.univ fun q => heldP c (cmH q) XC :=
  (Ring.pointsTo_blocks _ leadH.1 leadH.2 XC).trans (bigSep_congr fun e _ => (held_set c _ _ (cmH_set e)).symm)

theorem w1S_split (f : BufOf F c w1M) : wholeP c w1M f ⊢ bigSep Finset.univ fun e => w1Slot (F := F) c e := by
  rw [show wholeP c w1M f = bigSep Finset.univ fun e => heldP c (w1S e) f from
    (Ring.pointsTo_blocks _ lead1.1 lead1.2 f).trans (bigSep_congr fun e _ => (held_set c _ _ (w1S_set e)).symm)]
  exact bigSep_mono fun e _ => held_some c (w1S e) f
theorem w2S_split (f : BufOf F c w2M) : wholeP c w2M f ⊢ bigSep Finset.univ fun e => w2Slot (F := F) c e := by
  rw [show wholeP c w2M f = bigSep Finset.univ fun e => heldP c (w2S e) f from
    (Ring.pointsTo_blocks _ lead2.1 lead2.2 f).trans (bigSep_congr fun e _ => (held_set c _ _ (w2S_set e)).symm)]
  exact bigSep_mono fun e _ => held_some c (w2S e) f
theorem cmS_split (f : BufOf F c cmM) : wholeP c cmM f ⊢ bigSep Finset.univ fun s => cmSlot (F := F) c s := by
  rw [show wholeP c cmM f = bigSep Finset.univ fun s => heldP c (cmS s) f from
    (Ring.pointsTo_blocks _ leadC.1 leadC.2 f).trans (bigSep_congr fun e _ => (held_set c _ _ (cmS_set e)).symm)]
  exact bigSep_mono fun e _ => held_some c (cmS e) f

theorem w1S_join (f₀ : BufOf F c w1M) : bigSep Finset.univ (fun e => w1Slot (F := F) c e) ⊢ iprop(∃ f, wholeP (F := F) c w1M f) := by
  refine (bigSep_mono (Ψ := fun e => iprop(∃ f, w1M.view.loc (c : Thread nD τ) ↦[(Rect.unit (s := S8x768x384) (off3 e) S1x768x384.size (off3_inb1 e)).set]{fullShare} f)) fun e _ => ?_).trans
    (Ring.pointsTo_blocks_join_exists _ lead1.1 lead1.2 f₀)
  unfold w1Slot; rw [← w1S_set e]; exact .refl _
theorem w2S_join (f₀ : BufOf F c w2M) : bigSep Finset.univ (fun e => w2Slot (F := F) c e) ⊢ iprop(∃ f, wholeP (F := F) c w2M f) := by
  refine (bigSep_mono (Ψ := fun e => iprop(∃ f, w2M.view.loc (c : Thread nD τ) ↦[(Rect.unit (s := S8x384x768) (off3 e) S1x384x768.size (off3_inb2 e)).set]{fullShare} f)) fun e _ => ?_).trans
    (Ring.pointsTo_blocks_join_exists _ lead2.1 lead2.2 f₀)
  unfold w2Slot; rw [← w2S_set e]; exact .refl _
theorem cmS_join (f₀ : BufOf F c cmM) : bigSep Finset.univ (fun s => cmSlot (F := F) c s) ⊢ iprop(∃ f, wholeP (F := F) c cmM f) := by
  refine (bigSep_mono (Ψ := fun e => iprop(∃ f, cmM.view.loc (c : Thread nD τ) ↦[(Rect.unit (s := S2x512x8x256) (offC e) S1x512x8x256.size (offC_inb e)).set]{fullShare} f)) fun e _ => ?_).trans
    (Ring.pointsTo_blocks_join_exists _ leadC.1 leadC.2 f₀)
  unfold cmSlot; rw [← cmS_set e]; exact .refl _

theorem w1_entry (f : BufOf F c w1M) :
    iprop(bigSep Finset.univ (fun e => cellP (F := F) c (w1C e)) ∗ wholeP c w1A X1 ∗ wholeP c w1M f) ⊢ bigSep Finset.univ (w1St c X1 0) := by
  have h0 : w1St c X1 0 = w1Free c X1 := funext fun e => if_neg (by omega)
  rw [h0, show bigSep Finset.univ (w1Free c X1) = iprop(bigSep Finset.univ (fun e => cellP (F := F) c (w1C e)) ∗ bigSep Finset.univ (fun e => heldP c (w1H e) X1) ∗ bigSep Finset.univ (fun e => w1Slot (F := F) c e)) from by
    rw [← bigSep_sep', ← bigSep_sep']; rfl, w1H_blocks]
  iintro ⟨HC, HH, HS⟩
  isplitl [HC]
  · iexact HC
  isplitl [HH]
  · iexact HH
  · iapply (w1S_split c f); iexact HS
theorem w2_entry (f : BufOf F c w2M) :
    iprop(bigSep Finset.univ (fun e => cellP (F := F) c (w2C e)) ∗ wholeP c w2A X2 ∗ wholeP c w2M f) ⊢ bigSep Finset.univ (w2St c X2 0) := by
  have h0 : w2St c X2 0 = w2Free c X2 := funext fun e => if_neg (by omega)
  rw [h0, show bigSep Finset.univ (w2Free c X2) = iprop(bigSep Finset.univ (fun e => cellP (F := F) c (w2C e)) ∗ bigSep Finset.univ (fun e => heldP c (w2H e) X2) ∗ bigSep Finset.univ (fun e => w2Slot (F := F) c e)) from by
    rw [← bigSep_sep', ← bigSep_sep']; rfl, w2H_blocks]
  iintro ⟨HC, HH, HS⟩
  isplitl [HC]
  · iexact HC
  isplitl [HH]
  · iexact HH
  · iapply (w2S_split c f); iexact HS
theorem w1_exit (f₀ : BufOf F c w1M) : bigSep Finset.univ (w1St c X1 16)
    ⊢ iprop(bigSep Finset.univ (fun e => cellP (F := F) c (w1C e)) ∗ wholeP c w1A X1 ∗ ∃ f, wholeP c w1M f) := by
  have h0 : w1St c X1 16 = w1Free c X1 := funext fun e => if_neg (by omega)
  rw [h0, show bigSep Finset.univ (w1Free c X1) = iprop(bigSep Finset.univ (fun e => cellP (F := F) c (w1C e)) ∗ bigSep Finset.univ (fun e => heldP c (w1H e) X1) ∗ bigSep Finset.univ (fun e => w1Slot (F := F) c e)) from by
    rw [← bigSep_sep', ← bigSep_sep']; rfl, w1H_blocks]
  iintro ⟨HC, HH, HS⟩
  isplitl [HC]
  · iexact HC
  isplitl [HH]
  · iexact HH
  · iapply (w1S_join c f₀); iexact HS
theorem w2_exit (f₀ : BufOf F c w2M) : bigSep Finset.univ (w2St c X2 16)
    ⊢ iprop(bigSep Finset.univ (fun e => cellP (F := F) c (w2C e)) ∗ wholeP c w2A X2 ∗ ∃ f, wholeP c w2M f) := by
  have h0 : w2St c X2 16 = w2Free c X2 := funext fun e => if_neg (by omega)
  rw [h0, show bigSep Finset.univ (w2Free c X2) = iprop(bigSep Finset.univ (fun e => cellP (F := F) c (w2C e)) ∗ bigSep Finset.univ (fun e => heldP c (w2H e) X2) ∗ bigSep Finset.univ (fun e => w2Slot (F := F) c e)) from by
    rw [← bigSep_sep', ← bigSep_sep']; rfl, w2H_blocks]
  iintro ⟨HC, HH, HS⟩
  isplitl [HC]
  · iexact HC
  isplitl [HH]
  · iexact HH
  · iapply (w2S_join c f₀); iexact HS

theorem cm_entry : iprop(bigSep Finset.univ (fun q => cellP (F := F) c (cmC q)) ∗ wholeP c cmA XC) ⊢ bigSep Finset.univ (cmBl c XC 0) := by
  have h0 : cmBl c XC 0 = cmHome c XC := funext fun q => if_neg (by unfold cmFrom; split <;> omega)
  rw [h0, show bigSep Finset.univ (cmHome c XC) = iprop(bigSep Finset.univ (fun q => cellP (F := F) c (cmC q)) ∗ bigSep Finset.univ (fun q => heldP c (cmH q) XC)) from by
    unfold cmHome; rw [bigSep_sep'], cmH_blocks]
theorem cm_exit : bigSep Finset.univ (cmBl c XC 16) ⊢ iprop(bigSep Finset.univ (fun q => cellP (F := F) c (cmC q)) ∗ wholeP c cmA XC) := by
  have h0 : cmBl c XC 16 = cmHome c XC := funext fun q => if_neg (by unfold cmFrom; split <;> omega)
  rw [h0, show bigSep Finset.univ (cmHome c XC) = iprop(bigSep Finset.univ (fun q => cellP (F := F) c (cmC q)) ∗ bigSep Finset.univ (fun q => heldP c (cmH q) XC)) from by
    unfold cmHome; rw [bigSep_sep'], cmH_blocks]
theorem slot_entry (f : BufOf F c cmM) : wholeP c cmM f ⊢ bigSep Finset.univ (cmSl (F := F) c 0) := by
  have h0 : cmSl (F := F) c 0 = cmSlot c := funext fun s => if_pos (by omega)
  rw [h0]; exact cmS_split c f
theorem slot_exit (f₀ : BufOf F c cmM) : bigSep Finset.univ (cmSl (F := F) c 16) ⊢ iprop(∃ f, wholeP (F := F) c cmM f) := by
  have h0 : cmSl (F := F) c 16 = cmSlot c := funext fun s => if_pos (by have := s.isLt; omega)
  rw [h0]; exact cmS_join c f₀

end Stand

end Cert.KernelIdeal.Hand

end
-- ==== Proof.IdealInv.lean ====
/-
  The invariant the loop carries, with the values in it: before point `n` the gathered rows are the sums over the row
  blocks seen so far, the rows of the experts already run hold their outputs, and the transfers stand as they do there.
  The proof data of the loop, the host lines around it, and the invariant at entry and exit.
-/
module

public import proofs.«01_k».proof.Proof.IdealState

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Values -/

theorem N_eq : cfg0.N = 16 := N_0
/-- The grid point of a number. -/
def tP (k : ℕ) : Fin cfg0.N := ⟨k % 16, by rw [N_eq]; exact Nat.mod_lt _ (by decide)⟩
theorem tP_val (t : Fin cfg0.N) : tP t.val = t := Fin.ext (Nat.mod_eq_of_lt (lt_of_lt_of_eq t.isLt N_eq))
theorem coord_val (t : Fin cfg0.N) : (grid0.coords t 0).val = t.val := by
  revert t; decide +kernel

section Values
variable (c : Dev nD)

/-- The blocks the windows bring at a point: dispatch mask, tokens, the two biases. -/
def dB (k : ℕ) : Vec F S512x8x256 .f32 := iblk m c 0 (tP k)
def xB (k : ℕ) : Vec F S512x768 .f32 := iblk m c 1 (tP k)
def b1B (k : ℕ) : Vec F S1x1x384 .f32 := iblk m c 2 (tP k)
def b2B (k : ℕ) : Vec F S1x1x768 .f32 := iblk m c 3 (tP k)
/-- The arrays the kernel reads by its own transfers. -/
def arrC : BufOf F c cmA := V m c main_v2
def arrW1 : BufOf F c w1A := V m c main_arg3
def arrW2 : BufOf F c w2A := V m c main_arg5

/-- An expert's gathered rows after row blocks `0 … k`. -/
def accV : ℕ → Fin 8 → Vec F S256x768 .f32
  | 0, e => accInit (dB m c 0) (xB m c 0) e
  | k + 1, e => accAdd (dB m c (k + 1)) (xB m c (k + 1)) e (accV k e)
/-- An expert's output rows. -/
def yV (e : Fin 8) : Vec F S256x768 .bf16 :=
  yVal (accV m c 3 e) (w1Blk (arrW1 m c) e) (b1B m c (e.val + 4)) (w2Blk (arrW2 m c) e) (b2B m c (e.val + 4))
/-- The output's row block of a point. -/
def outV (t : Fin cfg0.N) : Vec F S512x768 .f32 := outVal (k0_pay12 (cmBlk (arrC m c) (qOf (grid0.coords t)))) (yV m c)

/-- What the gathered rows and the outputs hold before point `n`. -/
def accOK (n : ℕ) (f : BufOf F c accM) : Prop := 0 < n → ∀ e, rowsOf accM f e = accV m c (min n 4 - 1) e
def yOK (n : ℕ) (f : BufOf F c yM) : Prop := ∀ e : Fin 8, e.val + 4 < n → rowsOf yM f e = yV m c e

theorem accOK_keep (n : ℕ) (h : 4 ≤ n) (f : BufOf F c accM) (hf : accOK m c n f) : accOK m c (n + 1) f := fun _ e => by
  rw [hf (by omega) e, show min n 4 = min (n + 1) 4 from by omega]
theorem accOK_init (f : BufOf F c accM) (hf : ∀ e, rowsOf accM f e = accInit (dB m c 0) (xB m c 0) e) : accOK m c (0 + 1) f :=
  fun _ e => hf e
theorem accOK_add (n : ℕ) (h : 1 ≤ n ∧ n < 4) (f f' : BufOf F c accM) (hf : accOK m c n f)
    (hf' : ∀ e, rowsOf accM f' e = accAdd (dB m c n) (xB m c n) e (rowsOf accM f e)) : accOK m c (n + 1) f' := fun _ e => by
  rw [hf' e, hf (by omega) e]
  obtain ⟨k, rfl⟩ : ∃ k, n = k + 1 := ⟨n - 1, by omega⟩
  rw [show min (k + 1) 4 - 1 = k from by omega, show min (k + 1 + 1) 4 - 1 = k + 1 from by omega]
  rfl
theorem yOK_keep (n : ℕ) (h : n < 4 ∨ 12 ≤ n) (f : BufOf F c yM) (hf : yOK m c n f) : yOK m c (n + 1) f := fun e he =>
  hf e (by have := e.isLt; omega)
theorem yOK_set (n : ℕ) (e : Fin 8) (h : n = e.val + 4) (fa : BufOf F c accM) (f f' : BufOf F c yM) (ha : accOK m c n fa) (hf : yOK m c n f)
    (hf' : rowsOf yM f' e = yVal (rowsOf accM fa e) (w1Blk (arrW1 m c) e) (b1B m c n) (w2Blk (arrW2 m c) e) (b2B m c n)
      ∧ ∀ e', e' ≠ e → rowsOf yM f' e' = rowsOf yM f e') : yOK m c (n + 1) f' := fun e' he' => by
  by_cases he : e' = e
  · subst he
    rw [hf'.1, ha (by omega), show min n 4 - 1 = 3 from by omega, h]
    rfl
  · rw [hf'.2 e' he]
    exact hf e' (by have := Fin.val_ne_of_ne he; omega)
theorem yOK_all (n : ℕ) (h : 12 ≤ n) (f : BufOf F c yM) (hf : yOK m c n f) : rowsOf yM f = yV m c :=
  funext fun e => hf e (by have := e.isLt; omega)

end Values

/-! ## The invariant and the proof data -/

/-- What is held before point `n` besides the staging buffers. -/
def inv (c : Dev nD) (n : ℕ) : sProp 𝕄 :=
  iprop((∃ r, prngReg c r) ∗ (∃ f, wholeP c accM f ∗ ⌜accOK m c n f⌝) ∗ (∃ f, wholeP (F := F) c tM f)
    ∗ bigSep Finset.univ (w1St c (arrW1 m c) n) ∗ bigSep Finset.univ (w2St c (arrW2 m c) n)
    ∗ (∃ f, wholeP c yM f ∗ ⌜yOK m c n f⌝) ∗ bigSep Finset.univ (cmBl c (arrC m c) n) ∗ bigSep Finset.univ (cmSl (F := F) c n))

/-- The loop's proof data: the input windows' buffers stay at their blocks, the output's is left at its row block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c t
    | ⟨k + 5, h⟩ => absurd h (Nat.not_lt.2 (Nat.le_add_left _ _))
  Φ t := inv m c t.val
  q _ := fullShare
  owed _ := 0

theorem A_eq (c : Dev nD) (w : Fin cfg0.W) : (dats m 0 c).A w = V0 m c (Proc.devRef .tc (Pipeline.arrRef spec0 w)) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outV m c t := by dsimp only [dats]

/-! An input window's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)

/-! ## Launch: the kernel's own semaphores and the arrays its transfers read -/

/-- The transfers' semaphores. -/
def osem0 : Fin 8 ⊕ Fin 8 ⊕ Fin 4 → SemLoc sig
  | .inl e => SemLoc.dma (w1C e).sem
  | .inr (.inl e) => SemLoc.dma (w2C e).sem
  | .inr (.inr q) => SemLoc.dma (cmC q).sem
theorem ownSemFacts0 : Pipeline.OwnSemFacts spec0 osem0 := by decide +kernel

theorem own_eq (c : Dev nD) :
    Pipeline.ownSems0 (Ix := Unit) (Name := ℕ) (U := Pipeline.UD sig nD τ) (Lvl := ℕ) (Val := Elt F) (τ := τ) osem0 c
      = iprop(bigSep Finset.univ (fun e => cellP (F := F) c (w1C e)) ∗ bigSep Finset.univ (fun e => cellP (F := F) c (w2C e))
        ∗ bigSep Finset.univ (fun q => cellP (F := F) c (cmC q))) := by
  unfold Pipeline.ownSems0
  rw [BI.bigSep_univ_sum, BI.bigSep_univ_sum]
  rfl

/-- The arrays read by transfers of the kernel's own. -/
def H0 : Finset (Ref sig .tc) := {main_v2, main_arg3, main_arg5}
theorem H0_sub : H0 ⊆ Pipeline.restRefs sig spec0 := by decide

theorem hbm_eq (c : Dev nD) :
    (bigSep H0 fun b => ((c : Thread nD τ).loc b) ↦{fullShare} V m c b : sProp 𝕄)
      = iprop(wholeP c cmA (arrC m c) ∗ wholeP c w1A (arrW1 m c) ∗ wholeP c w2A (arrW2 m c)) := by
  rw [BI.bigSep_eq_bigSepL_of_eq [main_v2, main_arg3, main_arg5] (by decide) (by decide)]; rfl

theorem entry (c : Dev nD) : Pipeline.ΦD osem0 spec0 H0 (fun c b => V0 m c (Proc.devRef .tc b)) c ⊢ (dats m 0 c).Φ 0 := by
  rw [Pipeline.ΦD_eq, scopedRest0_eq, own_eq, show (dats m 0 c).Φ 0 = inv m c 0 from rfl, show (bigSep H0 fun b => ((c : Thread nD τ).loc b) ↦{fullShare} V0 m c (Proc.devRef .tc b) : sProp 𝕄)
      = iprop(wholeP c cmA (arrC m c) ∗ wholeP c w1A (arrW1 m c) ∗ wholeP c w2A (arrW2 m c)) from hbm_eq m c]
  unfold inv
  iintro ⟨⟨⟨%fa, Ha⟩, Ht, ⟨%f1, H1⟩, ⟨%f2, H2⟩, ⟨%fy, Hy⟩, %fc, Hc⟩, Hp, ⟨HC1, HC2, HC⟩, HXC, HX1, HX2⟩
  isplitl [Hp]
  · iexact Hp
  isplitl [Ha]
  · iexists fa
    isplitl [Ha]
    · iexact Ha
    · ipureintro; exact fun h => absurd h (by decide)
  isplitl [Ht]
  · iexact Ht
  isplitl [HC1 HX1 H1]
  · iapply (w1_entry c (arrW1 m c) f1)
    isplitl [HC1]
    · iexact HC1
    isplitl [HX1]
    · iexact HX1
    · iexact H1
  isplitl [HC2 HX2 H2]
  · iapply (w2_entry c (arrW2 m c) f2)
    isplitl [HC2]
    · iexact HC2
    isplitl [HX2]
    · iexact HX2
    · iexact H2
  isplitl [Hy]
  · iexists fy
    isplitl [Hy]
    · iexact Hy
    · ipureintro; exact fun e h => absurd h (by omega)
  isplitl [HC HXC]
  · iapply (cm_entry c (arrC m c))
    isplitl [HC]
    · iexact HC
    · iexact HXC
  · iapply (slot_entry c fc)
    iexact Hc

theorem exit (c : Dev nD) : (dats m 0 c).Φ (Fin.last cfg0.N) ⊢ Pipeline.ΦD osem0 spec0 H0 (fun c b => V0 m c (Proc.devRef .tc b)) c := by
  rw [Pipeline.ΦD_eq, scopedRest0_eq, own_eq, show (dats m 0 c).Φ (Fin.last cfg0.N) = inv m c 16 from by
      rw [← show cfg0.N = 16 from N_0]; rfl,
    show (bigSep H0 fun b => ((c : Thread nD τ).loc b) ↦{fullShare} V0 m c (Proc.devRef .tc b) : sProp 𝕄)
      = iprop(wholeP c cmA (arrC m c) ∗ wholeP c w1A (arrW1 m c) ∗ wholeP c w2A (arrW2 m c)) from hbm_eq m c]
  unfold inv
  iintro ⟨Hp, ⟨%fa, Ha, -⟩, Ht, H1, H2, ⟨%fy, Hy, -⟩, HB, HS⟩
  ihave H1 := (w1_exit c (arrW1 m c) (fun _ => Classical.arbitrary _)) $$ H1
  ihave H2 := (w2_exit c (arrW2 m c) (fun _ => Classical.arbitrary _)) $$ H2
  ihave HB := (cm_exit c (arrC m c)) $$ HB
  ihave HS := (slot_exit c (fun _ => Classical.arbitrary _)) $$ HS
  icases H1 with ⟨HC1, HX1, H1⟩
  icases H2 with ⟨HC2, HX2, H2⟩
  icases HB with ⟨HC, HXC⟩
  isplitl [Ha Ht H1 H2 Hy HS]
  · isplitl [Ha]
    · iexists fa; iexact Ha
    isplitl [Ht]
    · iexact Ht
    isplitl [H1]
    · iexact H1
    isplitl [H2]
    · iexact H2
    isplitl [Hy]
    · iexists fy; iexact Hy
    · iexact HS
  isplitl [Hp]
  · iexact Hp
  isplitl [HC1 HC2 HC]
  · isplitl [HC1]
    · iexact HC1
    isplitl [HC2]
    · iexact HC2
    · iexact HC
  isplitl [HXC]
  · iexact HXC
  isplitl [HX1]
  · iexact HX1
  · iexact HX2

/-! ## The host lines -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The trailing reshape touches none of the arrays the kernel's transfers read. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  have hs := (List.forall_iff_forall_mem.mp hostOps1_sub) op hop
  simp only [hostOps1, List.mem_cons, List.mem_nil_iff, or_false] at hop
  subst hop
  refine Pipeline.sub_tailRefsBut Pipeline.Prefetch.none spec0 H0 _ hs (fun k => k.elim0) fun b hb => ?_
  rw [StableHlo.reshape_bufs]
  simp only [Finset.mem_insert, Finset.mem_singleton, not_or]
  have hb' : b ≠ main_v5 ∧ b ≠ main_v6 := by revert b; decide
  exact ⟨StableHlo.devRef_ne_of_ne hb'.1, StableHlo.devRef_ne_of_ne hb'.2⟩

/-- A buffer that is neither a window's array nor the result ends as the region found it. -/
theorem W_of (c : Dev nD) (b : Ref sig .tc) (h : ∀ w, Pipeline.arrRef spec0 w ≠ b) (hb : b ≠ main_v6) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hb)),
    Pipeline.withArrays_of_ne _ c (V0 m c) _ b h]

end Cert.KernelIdeal.Hand

end
-- ==== Proof.IdealBody.lean ====
/-
  The body at every grid point takes the invariant to the next point's and leaves each window's buffer as the proof data
  say.
-/
module

public import proofs.«01_k».proof.Proof.IdealInv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The staging buffers around the body -/

section Buffers
variable (c : Dev nD) (t : Fin cfg0.N)

/-- The output window's buffer after the body, as the loop asks for it. -/
def outPost : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

theorem idle_lt (t : Fin cfg0.N) : t.val < 12 → cfg0.idle 4 (cfg0.grid.coords t) = true := by revert t; decide +kernel
theorem idle_ge (t : Fin cfg0.N) : 12 ≤ t.val → cfg0.idle 4 (cfg0.grid.coords t) = false := by revert t; decide +kernel
theorem flush_lt (t : Fin cfg0.N) : t.val < 12 → (cfg0.win 4).flush t = false := by revert t; decide +kernel

theorem outPost_idle (h : t.val < 12) :
    outPost m c t = iprop(∃ d, owns (c : Thread nD τ) (st0_4 t) fullShare ((dats m 0 c).before 4 t d)) := by
  unfold outPost; rw [idle_lt t h, flush_lt t h]
theorem outPost_out (h : 12 ≤ t.val) : outPost m c t = owns (c : Thread nD τ) (st0_4 t) fullShare (outV m c t) := by
  unfold outPost; rw [idle_ge t h, after_4]

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ outPost m c t)

/-- Opened: the invariant, what is owed, the input blocks held at contents that read as they should. -/
def openPre : sProp 𝕄 :=
  iprop(inv m c t.val ∗ (∃ W, owes (c : Thread nD τ) 0 W)
    ∗ (∃ f, heldP c (st0_0 t) f ∗ ⌜(st0_0 t).view.read (Elt F) f = dB m c t.val⌝)
    ∗ (∃ f, heldP c (st0_1 t) f ∗ ⌜(st0_1 t).view.read (Elt F) f = xB m c t.val⌝)
    ∗ (∃ f, heldP c (st0_2 t) f ∗ ⌜(st0_2 t).view.read (Elt F) f = b1B m c t.val⌝)
    ∗ (∃ f, heldP c (st0_3 t) f ∗ ⌜(st0_3 t).view.read (Elt F) f = b2B m c t.val⌝)
    ∗ (∃ d, owns (c : Thread nD τ) (st0_4 t) fullShare ((dats m 0 c).before 4 t d)))
def openPost : sProp 𝕄 :=
  iprop(inv m c (t.val + 1) ∗ (∃ W, owes (c : Thread nD τ) 0 W)
    ∗ (∃ f, heldP c (st0_0 t) f ∗ ⌜(st0_0 t).view.read (Elt F) f = dB m c t.val⌝)
    ∗ (∃ f, heldP c (st0_1 t) f ∗ ⌜(st0_1 t).view.read (Elt F) f = xB m c t.val⌝)
    ∗ (∃ f, heldP c (st0_2 t) f ∗ ⌜(st0_2 t).view.read (Elt F) f = b1B m c t.val⌝)
    ∗ (∃ f, heldP c (st0_3 t) f ∗ ⌜(st0_3 t).view.read (Elt F) f = b2B m c t.val⌝)
    ∗ outPost m c t)

theorem open_0 : (∃ d, owns (c : Thread nD τ) (st0_0 t) fullShare ((dats m 0 c).before 0 t d) : sProp 𝕄)
    ⊢ iprop(∃ f, heldP c (st0_0 t) f ∗ ⌜(st0_0 t).view.read (Elt F) f = dB m c t.val⌝) := by
  iintro ⟨%d, H⟩
  rw [before_0]
  unfold owns
  icases H with ⟨%f, %hf, H⟩
  iexists f
  isplitl [H]
  · iexact H
  · ipureintro; rw [hf]; unfold dB; rw [tP_val]
theorem close_0 : iprop(∃ f, heldP c (st0_0 t) f ∗ ⌜(st0_0 t).view.read (Elt F) f = dB m c t.val⌝)
    ⊢ (owns (c : Thread nD τ) (st0_0 t) fullShare ((dats m 0 c).after 0 t) : sProp 𝕄) := by
  rw [after_0]
  unfold owns
  iintro ⟨%f, H, %hf⟩
  iexists f
  isplitr
  · ipureintro; rw [hf]; unfold dB; rw [tP_val]
  · iexact H
theorem open_1 : (∃ d, owns (c : Thread nD τ) (st0_1 t) fullShare ((dats m 0 c).before 1 t d) : sProp 𝕄)
    ⊢ iprop(∃ f, heldP c (st0_1 t) f ∗ ⌜(st0_1 t).view.read (Elt F) f = xB m c t.val⌝) := by
  iintro ⟨%d, H⟩
  rw [before_1]
  unfold owns
  icases H with ⟨%f, %hf, H⟩
  iexists f
  isplitl [H]
  · iexact H
  · ipureintro; rw [hf]; unfold xB; rw [tP_val]
theorem close_1 : iprop(∃ f, heldP c (st0_1 t) f ∗ ⌜(st0_1 t).view.read (Elt F) f = xB m c t.val⌝)
    ⊢ (owns (c : Thread nD τ) (st0_1 t) fullShare ((dats m 0 c).after 1 t) : sProp 𝕄) := by
  rw [after_1]
  unfold owns
  iintro ⟨%f, H, %hf⟩
  iexists f
  isplitr
  · ipureintro; rw [hf]; unfold xB; rw [tP_val]
  · iexact H
theorem open_2 : (∃ d, owns (c : Thread nD τ) (st0_2 t) fullShare ((dats m 0 c).before 2 t d) : sProp 𝕄)
    ⊢ iprop(∃ f, heldP c (st0_2 t) f ∗ ⌜(st0_2 t).view.read (Elt F) f = b1B m c t.val⌝) := by
  iintro ⟨%d, H⟩
  rw [before_2]
  unfold owns
  icases H with ⟨%f, %hf, H⟩
  iexists f
  isplitl [H]
  · iexact H
  · ipureintro; rw [hf]; unfold b1B; rw [tP_val]
theorem close_2 : iprop(∃ f, heldP c (st0_2 t) f ∗ ⌜(st0_2 t).view.read (Elt F) f = b1B m c t.val⌝)
    ⊢ (owns (c : Thread nD τ) (st0_2 t) fullShare ((dats m 0 c).after 2 t) : sProp 𝕄) := by
  rw [after_2]
  unfold owns
  iintro ⟨%f, H, %hf⟩
  iexists f
  isplitr
  · ipureintro; rw [hf]; unfold b1B; rw [tP_val]
  · iexact H
theorem open_3 : (∃ d, owns (c : Thread nD τ) (st0_3 t) fullShare ((dats m 0 c).before 3 t d) : sProp 𝕄)
    ⊢ iprop(∃ f, heldP c (st0_3 t) f ∗ ⌜(st0_3 t).view.read (Elt F) f = b2B m c t.val⌝) := by
  iintro ⟨%d, H⟩
  rw [before_3]
  unfold owns
  icases H with ⟨%f, %hf, H⟩
  iexists f
  isplitl [H]
  · iexact H
  · ipureintro; rw [hf]; unfold b2B; rw [tP_val]
theorem close_3 : iprop(∃ f, heldP c (st0_3 t) f ∗ ⌜(st0_3 t).view.read (Elt F) f = b2B m c t.val⌝)
    ⊢ (owns (c : Thread nD τ) (st0_3 t) fullShare ((dats m 0 c).after 3 t) : sProp 𝕄) := by
  rw [after_3]
  unfold owns
  iintro ⟨%f, H, %hf⟩
  iexists f
  isplitr
  · ipureintro; rw [hf]; unfold b2B; rw [tP_val]
  · iexact H

theorem open_pre : bodyPre m c t ⊢ openPre m c t := by
  unfold bodyPre openPre Dat.owesAt Pipeline.owesWithin
  rw [show (dats m 0 c).owed t.castSucc = 0 from rfl, show (dats m 0 c).Φ t.castSucc = inv m c t.val from rfl]
  iintro ⟨HI, ⟨%W, -, HW⟩, H0, H1, H2, H3, H4⟩
  isplitl [HI]
  · iexact HI
  isplitl [HW]
  · iexists W; iexact HW
  isplitl [H0]
  · iapply (open_0 m c t); iexact H0
  isplitl [H1]
  · iapply (open_1 m c t); iexact H1
  isplitl [H2]
  · iapply (open_2 m c t); iexact H2
  isplitl [H3]
  · iapply (open_3 m c t); iexact H3
  · iexact H4
theorem close_post : openPost m c t ⊢ bodyPost m c t := by
  unfold bodyPost openPost Dat.owesAt Pipeline.owesWithin
  rw [show (dats m 0 c).owed t.succ = 0 from rfl, show (dats m 0 c).Φ t.succ = inv m c (t.val + 1) from rfl]
  iintro ⟨HI, ⟨%W, HW⟩, H0, H1, H2, H3, H4⟩
  isplitl [HI]
  · iexact HI
  isplitl [HW]
  · iexists W
    isplitr
    · ipureintro; exact fun _ _ => Or.inl trivial
    · iexact HW
  isplitl [H0]
  · iapply (close_0 m c t); iexact H0
  isplitl [H1]
  · iapply (close_1 m c t); iexact H1
  isplitl [H2]
  · iapply (close_2 m c t); iexact H2
  isplitl [H3]
  · iapply (close_3 m c t); iexact H3
  · iexact H4

end Buffers

/-! ## The six phases -/

section Phases
variable (c : Dev nD) (t : Fin cfg0.N)

/-- The body's triple at a point, opened. -/
def Step : Prop := openPre m c t ⊢ wp frame (wpE (defs₀ (F := F)) Variants.none c none) Set.univ (bodyAt0 t) (fun _ => openPost m c t)

theorem step_first (ht : t.val = 0) : Step m c t := by
  have hi : (grid0.coords t 0).val = 0 := (coord_val t).trans ht
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  ihave Hw1 := (w1_start c (arrW1 m c) t.val ht) $$ Hw1
  ihave Hw2 := (w2_start c (arrW2 m c) t.val ht) $$ Hw2
  icases Hw1 with ⟨HF1, Hw1⟩
  icases Hw2 with ⟨HF2, Hw2⟩
  iapply (firstRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (arrW1 m c) (arrW2 m c) hi fa ft f0 f1 W)
  isplitl [Ha]
  · iexact Ha
  isplitl [Ht]
  · iexact Ht
  isplitl [H0]
  · iexact H0
  isplitl [H1]
  · iexact H1
  isplitl [HF1]
  · iexact HF1
  isplitl [HF2]
  · iexact HF2
  isplitl [HW]
  · iexact HW
  · iintro ⟨Ha, Ht, H0, H1, HF1, HF2, HW⟩
    ihave Hw1 := Hw1 $$ HF1
    ihave Hw2 := Hw2 $$ HF2
    isplitl [Hp Ha Ht Hw1 Hw2 Hy HB HS]
    · isplitl [Hp]
      · iexact Hp
      isplitl [Ha]
      · icases Ha with ⟨%fa', Ha, %ha'⟩
        iexists fa'
        isplitl [Ha]
        · iexact Ha
        · ipureintro; rw [ht]; exact accOK_init m c fa' fun e => by rw [ha' e, h0, h1, ht]
      isplitl [Ht]
      · iexact Ht
      isplitl [Hw1]
      · iexact Hw1
      isplitl [Hw2]
      · iexact Hw2
      isplitl [Hy]
      · iexists fy
        isplitl [Hy]
        · iexact Hy
        · ipureintro; exact yOK_keep m c t.val (by omega) fy hy
      isplitl [HB]
      · rw [cmBl_keep c (arrC m c) t.val (by omega)]
        iexact HB
      · rw [cmSl_keep c t.val (by omega)]
        iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_idle m c t (by omega)]
      iexact H4
theorem step_acc (ht : 1 ≤ t.val ∧ t.val < 3) : Step m c t := by
  have hi : 1 ≤ (grid0.coords t 0).val ∧ (grid0.coords t 0).val < 3 := by rw [coord_val t]; exact ht
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  iapply (accRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    hi fa ft f0 f1 W)
  isplitl [Ha]
  · iexact Ha
  isplitl [Ht]
  · iexact Ht
  isplitl [H0]
  · iexact H0
  isplitl [H1]
  · iexact H1
  isplitl [HW]
  · iexact HW
  · iintro ⟨Ha, Ht, H0, H1, HW⟩
    isplitl [Hp Ha Ht Hw1 Hw2 Hy HB HS]
    · isplitl [Hp]
      · iexact Hp
      isplitl [Ha]
      · icases Ha with ⟨%fa', Ha, %ha'⟩
        iexists fa'
        isplitl [Ha]
        · iexact Ha
        · ipureintro; exact accOK_add m c t.val (by omega) fa fa' ha fun e => by rw [ha' e, h0, h1]
      isplitl [Ht]
      · iexact Ht
      isplitl [Hw1]
      · rw [w1_keep c (arrW1 m c) t.val (by omega)]
        iexact Hw1
      isplitl [Hw2]
      · rw [w2_keep c (arrW2 m c) t.val (by omega)]
        iexact Hw2
      isplitl [Hy]
      · iexists fy
        isplitl [Hy]
        · iexact Hy
        · ipureintro; exact yOK_keep m c t.val (by omega) fy hy
      isplitl [HB]
      · rw [cmBl_keep c (arrC m c) t.val (by omega)]
        iexact HB
      · rw [cmSl_keep c t.val (by omega)]
        iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_idle m c t (by omega)]
      iexact H4
theorem step_start (ht : t.val = 3) : Step m c t := by
  have hi : (grid0.coords t 0).val = 3 := (coord_val t).trans ht
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  ihave HB := (cmBl_start c (arrC m c) t.val ht) $$ HB
  ihave HS := (cmSl_start c t.val ht) $$ HS
  icases HB with ⟨HB0, HB1, HB⟩
  icases HS with ⟨HS0, HS1, HS⟩
  iapply (cmStartRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (arrC m c) hi fa ft f0 f1 W)
  isplitl [Ha]
  · iexact Ha
  isplitl [Ht]
  · iexact Ht
  isplitl [H0]
  · iexact H0
  isplitl [H1]
  · iexact H1
  isplitl [HB0]
  · iexact HB0
  isplitl [HS0]
  · iexact HS0
  isplitl [HB1]
  · iexact HB1
  isplitl [HS1]
  · iexact HS1
  isplitl [HW]
  · iexact HW
  · iintro ⟨Ha, Ht, H0, H1, HB0, HB1, HW⟩
    ihave HB := HB $$ HB0 HB1
    isplitl [Hp Ha Ht Hw1 Hw2 Hy HB HS]
    · isplitl [Hp]
      · iexact Hp
      isplitl [Ha]
      · icases Ha with ⟨%fa', Ha, %ha'⟩
        iexists fa'
        isplitl [Ha]
        · iexact Ha
        · ipureintro; exact accOK_add m c t.val (by omega) fa fa' ha fun e => by rw [ha' e, h0, h1]
      isplitl [Ht]
      · iexact Ht
      isplitl [Hw1]
      · rw [w1_keep c (arrW1 m c) t.val (by omega)]
        iexact Hw1
      isplitl [Hw2]
      · rw [w2_keep c (arrW2 m c) t.val (by omega)]
        iexact Hw2
      isplitl [Hy]
      · iexists fy
        isplitl [Hy]
        · iexact Hy
        · ipureintro; exact yOK_keep m c t.val (by omega) fy hy
      isplitl [HB]
      · iexact HB
      · iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_idle m c t (by omega)]
      iexact H4
theorem step_expert (ht : 4 ≤ t.val ∧ t.val < 12) : Step m c t := by
  have hi : 4 ≤ (grid0.coords t 0).val ∧ (grid0.coords t 0).val < 12 := by rw [coord_val t]; exact ht
  have he : t.val = (eOf (grid0.coords t)).val + 4 := by
    show t.val = ((grid0.coords t 0).val - 4) % 8 + 4; rw [coord_val t]; omega
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  ihave Hw1 := (w1_take c (arrW1 m c) t.val (eOf (grid0.coords t)) he) $$ Hw1
  ihave Hw2 := (w2_take c (arrW2 m c) t.val (eOf (grid0.coords t)) he) $$ Hw2
  icases Hw1 with ⟨HF1, Hw1⟩
  icases Hw2 with ⟨HF2, Hw2⟩
  iapply (expertRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (arrW1 m c) (arrW2 m c) hi fa fy f2 f3 W)
  isplitl [Ha]
  · iexact Ha
  isplitl [Hy]
  · iexact Hy
  isplitl [H2]
  · iexact H2
  isplitl [H3]
  · iexact H3
  isplitl [HF1]
  · iexact HF1
  isplitl [HF2]
  · iexact HF2
  isplitl [HW]
  · iexact HW
  · iintro ⟨Ha, ⟨%fy', Hy, %hy'⟩, H2, H3, HF1, HF2, HW⟩
    ihave Hw1 := Hw1 $$ HF1
    ihave Hw2 := Hw2 $$ HF2
    rw [h2, h3] at hy'
    isplitl [Hp Ha Ht Hw1 Hw2 Hy HB HS]
    · isplitl [Hp]
      · iexact Hp
      isplitl [Ha]
      · iexists fa
        isplitl [Ha]
        · iexact Ha
        · ipureintro; exact accOK_keep m c t.val (by omega) fa ha
      isplitl [Ht]
      · iexists ft; iexact Ht
      isplitl [Hw1]
      · iexact Hw1
      isplitl [Hw2]
      · iexact Hw2
      isplitl [Hy]
      · iexists fy'
        isplitl [Hy]
        · iexact Hy
        · ipureintro; exact yOK_set m c t.val _ he fa fy fy' ha hy hy'
      isplitl [HB]
      · rw [cmBl_keep c (arrC m c) t.val (by omega)]
        iexact HB
      · rw [cmSl_keep c t.val (by omega)]
        iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_idle m c t (by omega)]
      iexact H4
theorem step_next (ht : 12 ≤ t.val ∧ t.val < 14) : Step m c t := by
  have hi : 12 ≤ (grid0.coords t 0).val ∧ (grid0.coords t 0).val < 14 := by rw [coord_val t]; exact ht
  have hq : t.val = (qOf (grid0.coords t)).val + 12 := by
    have := lt_of_lt_of_eq t.isLt N_eq
    show t.val = ((grid0.coords t 0).val - 12) % 4 + 12; rw [coord_val t]; omega
  have hs : sOf (grid0.coords t) = slotOf (qOf (grid0.coords t)) := Fin.ext (by
    show (grid0.coords t 0).val % 2 = (qOf (grid0.coords t)).val % 2; rw [coord_val t]; omega)
  have hn : (qNext (grid0.coords t)).val = (qOf (grid0.coords t)).val + 2 := by
    show ((grid0.coords t 0).val - 10) % 4 = _; rw [coord_val t]; omega
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  icases H4 with ⟨%d4, H4⟩
  unfold owns
  icases H4 with ⟨%f4, -, H4⟩
  ihave HB := (cmBl_next c (arrC m c) t.val (qOf (grid0.coords t)) (qNext (grid0.coords t)) hq hn) $$ HB
  icases HB with ⟨HB0, HB1, HB⟩
  have hrun := outRunNext c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (arrC m c) hi fy ft f4 W
  rw [hs] at hrun
  iapply (hrun _)
  isplitl [Hy]
  · iexact Hy
  isplitl [Ht]
  · iexact Ht
  isplitl [H4]
  · iexact H4
  isplitl [HB0]
  · iexact HB0
  isplitl [HB1]
  · iexact HB1
  isplitl [HW]
  · iexact HW
  · iintro ⟨Hy, Ht, H4, HB0, HB1, HW⟩
    ihave HB := HB $$ HB0 HB1
    isplitl [Hp Ha Ht Hw1 Hw2 Hy HB HS]
    · isplitl [Hp]
      · iexact Hp
      isplitl [Ha]
      · iexists fa
        isplitl [Ha]
        · iexact Ha
        · ipureintro; exact accOK_keep m c t.val (by omega) fa ha
      isplitl [Ht]
      · iexact Ht
      isplitl [Hw1]
      · rw [w1_keep c (arrW1 m c) t.val (by omega)]
        iexact Hw1
      isplitl [Hw2]
      · rw [w2_keep c (arrW2 m c) t.val (by omega)]
        iexact Hw2
      isplitl [Hy]
      · iexists fy
        isplitl [Hy]
        · iexact Hy
        · ipureintro; exact yOK_keep m c t.val (by omega) fy hy
      isplitl [HB]
      · iexact HB
      · rw [cmSl_keep c t.val (by omega)]
        iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_out m c t (by omega)]
      unfold owns
      icases H4 with ⟨%g, H4, %hg⟩
      iexists g
      isplitr
      · ipureintro; rw [hg, yOK_all m c t.val (by omega) fy hy]; rfl
      · iexact H4
theorem step_last (ht : 14 ≤ t.val) : Step m c t := by
  have hi : 14 ≤ (grid0.coords t 0).val := by rw [coord_val t]; exact ht
  have hq : t.val = (qOf (grid0.coords t)).val + 12 := by
    have := lt_of_lt_of_eq t.isLt N_eq
    show t.val = ((grid0.coords t 0).val - 12) % 4 + 12; rw [coord_val t]; omega
  have hs : sOf (grid0.coords t) = slotOf (qOf (grid0.coords t)) := Fin.ext (by
    show (grid0.coords t 0).val % 2 = (qOf (grid0.coords t)).val % 2; rw [coord_val t]; omega)
  have hs' : t.val = (slotOf (qOf (grid0.coords t))).val + 14 := by
    show t.val = (qOf (grid0.coords t)).val % 2 + 14; omega
  unfold Step openPre openPost inv
  iintro ⟨⟨Hp, ⟨%fa, Ha, %ha⟩, ⟨%ft, Ht⟩, Hw1, Hw2, ⟨%fy, Hy, %hy⟩, HB, HS⟩, ⟨%W, HW⟩, ⟨%f0, H0, %h0⟩, ⟨%f1, H1, %h1⟩, ⟨%f2, H2, %h2⟩, ⟨%f3, H3, %h3⟩, H4⟩
  icases H4 with ⟨%d4, H4⟩
  unfold owns
  icases H4 with ⟨%f4, -, H4⟩
  ihave HB := (cmBl_last c (arrC m c) t.val (qOf (grid0.coords t)) hq (by omega)) $$ HB
  ihave HS := (cmSl_last c t.val (slotOf (qOf (grid0.coords t))) hs') $$ HS
  icases HB with ⟨HB0, HB⟩
  have hrun := outRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (arrC m c) hi fy ft f4 W
  rw [hs] at hrun
  iapply (hrun _)
  isplitl [Hy]
  · iexact Hy
  isplitl [Ht]
  · iexact Ht
  isplitl [H4]
  · iexact H4
  isplitl [HB0]
  · iexact HB0
  isplitl [HW]
  · iexact HW
  · iintro ⟨Hy, Ht, H4, HB0, HS0, HW⟩
    ihave HB := HB $$ HB0
    ihave HS := HS $$ HS0
    isplitl [Hp Ha Ht Hw1 Hw2 Hy HB HS]
    · isplitl [Hp]
      · iexact Hp
      isplitl [Ha]
      · iexists fa
        isplitl [Ha]
        · iexact Ha
        · ipureintro; exact accOK_keep m c t.val (by omega) fa ha
      isplitl [Ht]
      · iexact Ht
      isplitl [Hw1]
      · rw [w1_keep c (arrW1 m c) t.val (by omega)]
        iexact Hw1
      isplitl [Hw2]
      · rw [w2_keep c (arrW2 m c) t.val (by omega)]
        iexact Hw2
      isplitl [Hy]
      · iexists fy
        isplitl [Hy]
        · iexact Hy
        · ipureintro; exact yOK_keep m c t.val (by omega) fy hy
      isplitl [HB]
      · iexact HB
      · iexact HS
    isplitl [HW]
    · iexact HW
    isplitl [H0]
    · iexists f0
      isplitl [H0]
      · iexact H0
      · ipureintro; exact h0
    isplitl [H1]
    · iexists f1
      isplitl [H1]
      · iexact H1
      · ipureintro; exact h1
    isplitl [H2]
    · iexists f2
      isplitl [H2]
      · iexact H2
      · ipureintro; exact h2
    isplitl [H3]
    · iexists f3
      isplitl [H3]
      · iexact H3
      · ipureintro; exact h3
    · rw [outPost_out m c t (by omega)]
      unfold owns
      icases H4 with ⟨%g, H4, %hg⟩
      iexists g
      isplitr
      · ipureintro; rw [hg, yOK_all m c t.val (by omega) fy hy]; rfl
      · iexact H4

end Phases

/-- The body at every point. -/
theorem sound_body (c : Dev nD) (t : Fin cfg0.N) :
    bodyPre m c t ⊢ wp frame (wpE (defs₀ (F := F)) Variants.none c none) Set.univ (bodyAt0 t) (fun _ => bodyPost m c t) := by
  have hstep : Step m c t := by
    have := lt_of_lt_of_eq t.isLt N_eq
    rcases (by omega : t.val = 0 ∨ (1 ≤ t.val ∧ t.val < 3) ∨ t.val = 3 ∨ (4 ≤ t.val ∧ t.val < 12) ∨ (12 ≤ t.val ∧ t.val < 14) ∨ 14 ≤ t.val)
      with h | h | h | h | h | h
    · exact step_first m c t h
    · exact step_acc m c t h
    · exact step_start m c t h
    · exact step_expert m c t h
    · exact step_next m c t h
    · exact step_last m c t h
  exact triple_restated hstep rfl (open_pre m c t) fun _ => close_post m c t

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .refl fun _ => .refl

/-! ## The run and the frame -/

set_option backward.isDefEq.respectTransparency.types false in
set_option maxHeartbeats 1600000 in
/-- The program ends with the result array as the loop's blocks make it, everything else as found, no semaphore up. -/
theorem run_main : θ_run defs (onTc (main (F := F))) ⟨m, fun _ => 0, ρ⟩ fun r =>
    Pipeline.FramePost cfgs (dats m) 0 (Pipeline.afterTail₀ cfgs (dats m) 0 (V0 m) [hostOps1]) r ∧ r.2.sem = fun _ => 0 :=
  Pipeline.θ_run_frame_dma_around
    (Q' := fun r => Pipeline.FramePost cfgs (dats m) 0 (Pipeline.afterTail₀ cfgs (dats m) 0 (V0 m) [hostOps1]) r ∧ r.2.sem = fun _ => 0)
    (hQ' := fun _ h => h)
    cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) sfx_but sfx_fresh sfx_keeps
    (hmain := hmain m Variants.none) (hA := A_eq m) (hin := entry m) (hout := exit m)

end Cert.KernelIdeal.Hand

end
-- ==== Proof.IdealFrame.lean ====
/-
  The program ends with its arguments as they were and no semaphore up.
-/
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the program leaves of its arguments: all of them. -/
def ArgsKept (r : PUnit × MemSt nD τ sig (Elt F)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)

/-- A buffer that bypasses the pipeline and is not the result ends as the region found it. -/
theorem post_of (r : PUnit × MemSt nD τ sig (Elt F))
    (h : Pipeline.FramePost cfgs (dats m) 0 (Pipeline.afterTail₀ cfgs (dats m) 0 (V0 m) [hostOps1]) r) (c : Dev nD) (b : Ref sig .tc)
    (hu : b.isScoped = false) (ha : ∀ w, Pipeline.arrRef spec0 w ≠ b) (hb : b ≠ main_v6) : r.2.mem ((c : Thread nD τ).loc b) = V m c b :=
  ((h c).2 b (Pipeline.mem_restRefs_of b hu ha)).trans (W_of m c b ha hb)

theorem args_kept (r : PUnit × MemSt nD τ sig (Elt F))
    (h : Pipeline.FramePost cfgs (dats m) 0 (Pipeline.afterTail₀ cfgs (dats m) 0 (V0 m) [hostOps1]) r) (c : Dev nD) : ArgsKept m r c :=
  ⟨(post_of m r h c main_arg0 (by decide) (by decide) (by decide)).trans (V_main_arg0 m c),
    (post_of m r h c main_arg1 (by decide) (by decide) (by decide)).trans (V_main_arg1 m c),
    (post_of m r h c main_arg2 (by decide) (by decide) (by decide)).trans (V_main_arg2 m c),
    (post_of m r h c main_arg3 (by decide) (by decide) (by decide)).trans (V_main_arg3 m c),
    (post_of m r h c main_arg4 (by decide) (by decide) (by decide)).trans (V_main_arg4 m c),
    (post_of m r h c main_arg5 (by decide) (by decide) (by decide)).trans (V_main_arg5 m c),
    (post_of m r h c main_arg6 (by decide) (by decide) (by decide)).trans (V_main_arg6 m c)⟩

/-- The frame. -/
theorem run_frame : θ_run defs (onTc (main (F := F))) ⟨m, fun _ => 0, ρ⟩ fun r => (∀ c, ArgsKept m r c) ∧ r.2.sem = fun _ => 0 :=
  (θ_run defs _ _).mono (fun r h => ⟨args_kept m r h.1, h.2⟩) (run_main m ρ)

end Cert.KernelIdeal.Hand

end
-- ==== Proof.Gelu.lean ====
/-
  The activation both programs apply at each element, as a function of one extended real: the exact Gaussian-error linear
  unit with the error function replaced by the rational approximation both compute.
-/
module

public import Idealize.ShloMosaic.Lib.Pointwise

@[expose] public section

noncomputable section

namespace Cert.Moe

open Idealize.ShloMosaic

/-- The extended real of an f32 word. -/
abbrev w32 (b : BitVec 32) : EReal := Ideal.ofBits .f32 b

/-- `1 / (1 + p a)`, the variable of the approximation's polynomial, at a magnitude `a`. -/
def erfT (a : EReal) : EReal := Ideal.div (1) (1 + w32 0x3EA7BA05#32 * a)
/-- The polynomial, by Horner's rule. -/
def erfPoly (t : EReal) : EReal :=
  t * (w32 0x3E827906#32 + t * (w32 0xBE91A98E#32 + t * (w32 0x3FB5F0E3#32 + t * (w32 0xBFBA00E3#32 + t * w32 0x3F87DC22#32))))
/-- The magnitude. -/
abbrev mag (v : EReal) : EReal := FloatOps.absf (F := Ideal) (φ := .f32) v
/-- The approximation to the error function at `v`: its magnitude's value under its sign. -/
def erfA (v : EReal) : EReal :=
  Ideal.sign v * (1 - erfPoly (erfT (mag v)) * Ideal.exp (-mag v * mag v))
/-- The activation. -/
def gelu (h : EReal) : EReal :=
  w32 0x3F000000#32 * h * (1 + erfA (h * w32 0x3F3504F3#32))

/-- The sign as the kernel selects it by comparisons. -/
theorem sign_eq (v : EReal) : (if 0 < mag v then if v < 0 then w32 0xBF800000#32 else 1 else v) = Ideal.sign v := by
  rw [← Ideal.jnp_sign_eq_sign_f32]
  pointwise

end Cert.Moe

end
-- ==== Proof.IdealPure.lean ====
/-
  The functions the body computes, read at one element over the extended reals: sums of products, a bias, the activation.
-/
module

public import proofs.«01_k».proof.Proof.IdealSpec
public import proofs.«01_k».proof.Proof.Gelu
public import Idealize.ShloMosaic.Lib.Pipeline.ValueKit

@[expose] public section

noncomputable section

namespace Cert.KernelIdeal.Hand

open Cert.KernelIdeal Cert.KernelIdeal.Gen Cert.Moe
open Idealize.ShloMosaic

theorem slab_apply (t : Vec Ideal S8x512x256 .bf16) (e : Fin 8) (r : Fin 512) (k : Fin 256) :
    slab t e (ix3 0 r k) = t (ix3 e r k) := by
  unfold slab VecWindow.window
  blk_ext [off3]

theorem pay12_apply (d : Vec Ideal S512x8x256 .f32) (e : Fin 8) (r : Fin 512) (k : Fin 256) :
    k0_pay12 d (ix3 e r k) = d (ix3 r e k) := by
  pointwise [k0_pay12]

theorem gather_apply (d : Vec Ideal S512x8x256 .f32) (x : Vec Ideal S512x768 .f32) (e : Fin 8) (k : Fin 256) (j : Fin 768) :
    k0_pay4 (k0_pay13 x) (slab (k0_pay12 d) e) (ix2 k j) = ∑ r : Fin 512, d (ix3 r e k) * x (ix2 r j) := by
  pointwise [k0_pay4, k0_pay13]
  simp only [slab_apply, pay12_apply]

theorem accInit_apply (d : Vec Ideal S512x8x256 .f32) (x : Vec Ideal S512x768 .f32) (e : Fin 8) (k : Fin 256) (j : Fin 768) :
    accInit d x e (ix2 k j) = ∑ r : Fin 512, d (ix3 r e k) * x (ix2 r j) := by
  rw [← gather_apply]
  pointwise [accInit, k0_pay5]

theorem accAdd_apply (d : Vec Ideal S512x8x256 .f32) (x : Vec Ideal S512x768 .f32) (e : Fin 8) (a : Vec Ideal S256x768 .f32)
    (k : Fin 256) (j : Fin 768) :
    accAdd d x e a (ix2 k j) = a (ix2 k j) + ∑ r : Fin 512, d (ix3 r e k) * x (ix2 r j) := by
  rw [← gather_apply]
  pointwise [accAdd, k0_pay6]

theorem hidden_apply (a : Vec Ideal S256x768 .f32) (w1 : Vec Ideal S1x768x384 .f32) (b1 : Vec Ideal S1x1x384 .f32) (k : Fin 256) (l : Fin 384) :
    k0_pay30 a w1 b1 (ix2 k l) = (∑ j : Fin 768, a (ix2 k j) * w1 (ix3 0 j l)) + b1 (ix3 0 0 l) := by
  pointwise [k0_pay30]

theorem yVal_apply' (a : Vec Ideal S256x768 .f32) (w1 : Vec Ideal S1x768x384 .f32) (b1 : Vec Ideal S1x1x384 .f32)
    (w2 : Vec Ideal S1x384x768 .f32) (b2 : Vec Ideal S1x1x768 .f32) (k : Fin 256) (j : Fin 768) :
    yVal a w1 b1 w2 b2 (ix2 k j)
      = (∑ l : Fin 384, gelu (k0_pay30 a w1 b1 (ix2 k l)) * w2 (ix3 0 l j)) + b2 (ix3 0 0 j) := by
  pointwise [yVal, k0_pay10, k0_pay35, k0_pay31, k0_pay33, k0_pay34, k0_pay32]
  refine congrArg (· + _) (Finset.sum_congr rfl fun l _ => congrArg (· * _) ?_)
  generalize k0_pay30 a w1 b1 (ix2 k l) = h
  unfold gelu erfA erfPoly erfT
  rw [← sign_eq, ← zero_sub (mag _)]

theorem yVal_apply (a : Vec Ideal S256x768 .f32) (w1 : Vec Ideal S1x768x384 .f32) (b1 : Vec Ideal S1x1x384 .f32)
    (w2 : Vec Ideal S1x384x768 .f32) (b2 : Vec Ideal S1x1x768 .f32) (k : Fin 256) (j : Fin 768) :
    yVal a w1 b1 w2 b2 (ix2 k j)
      = (∑ l : Fin 384, gelu ((∑ j' : Fin 768, a (ix2 k j') * w1 (ix3 0 j' l)) + b1 (ix3 0 0 l)) * w2 (ix3 0 l j)) + b2 (ix3 0 0 j) := by
  rw [yVal_apply']
  simp only [hidden_apply]

theorem outVal_apply (t : Vec Ideal S8x512x256 .bf16) (y : Fin 8 → Vec Ideal S256x768 .bf16) (r : Fin 512) (j : Fin 768) :
    outVal t y (ix2 r j) = ∑ e : Fin 8, ∑ k : Fin 256, t (ix3 e r k) * y e (ix2 k j) := by
  pointwise [outVal, k0_pay11, k0_pay38, k0_pay39]
  simp only [slab_apply, Fin.sum_univ_eight]

end Cert.KernelIdeal.Hand

end
-- ==== Proof.Spec.lean ====
/-
  What both programs compute, over the extended reals, at one element of the result: the layer of experts with a dispatch
  mask and a combine array, as nested sums.
-/
module

public import proofs.«01_k».proof.Proof.Gelu

@[expose] public section

noncomputable section

namespace Cert.Moe

open Idealize.ShloMosaic

/-- The seven arguments: tokens, dispatch mask, combine array, and each layer's weights and biases. -/
@[ext] structure Args where
  x : (⟨3, ![1, 2048, 768]⟩ : Shape).Idx → EReal
  dm : (⟨4, ![1, 2048, 8, 256]⟩ : Shape).Idx → EReal
  cm : (⟨4, ![1, 2048, 8, 256]⟩ : Shape).Idx → EReal
  w1 : (⟨3, ![8, 768, 384]⟩ : Shape).Idx → EReal
  b1 : (⟨2, ![8, 384]⟩ : Shape).Idx → EReal
  w2 : (⟨3, ![8, 384, 768]⟩ : Shape).Idx → EReal
  b2 : (⟨2, ![8, 768]⟩ : Shape).Idx → EReal

variable (A : Args)

/-- Row `k` gathered for expert `e`. -/
def gath (e : Fin 8) (k : Fin 256) (j : Fin 768) : EReal := ∑ s : Fin 2048, A.dm (ix4 0 s e k) * A.x (ix3 0 s j)
/-- The expert's hidden layer, before the activation. -/
def hid (e : Fin 8) (k : Fin 256) (l : Fin 384) : EReal := (∑ j : Fin 768, gath A e k j * A.w1 (ix3 e j l)) + A.b1 (ix2 e l)
/-- The expert's result. -/
def res (e : Fin 8) (k : Fin 256) (j : Fin 768) : EReal := (∑ l : Fin 384, gelu (hid A e k l) * A.w2 (ix3 e l j)) + A.b2 (ix2 e j)
/-- The layer's result. -/
def out (s : Fin 2048) (j : Fin 768) : EReal := ∑ e : Fin 8, ∑ k : Fin 256, A.cm (ix4 0 s e k) * res A e k j

/-- An index of the result: its leading coordinate can only be `0`. -/
theorem eq_row (i : (⟨3, ![1, 2048, 768]⟩ : Shape).Idx) : i = ix3 0 (i 1) (i 2) := by
  have h : i 0 = (0 : Fin 1) := Subsingleton.elim (α := Fin 1) _ _
  exact (ix3_eta i).symm.trans (congrArg (fun z => ix3 z (i 1) (i 2)) h)

end Cert.Moe

end
-- ==== Proof.IdealValue.lean ====
/-
  The kernel's result over the extended reals, read at one element: the layer's sums.
-/
module

public import proofs.«01_k».proof.Proof.IdealFrame
public import proofs.«01_k».proof.Proof.IdealPure
public import proofs.«01_k».proof.Proof.Spec
public import Idealize.ShloMosaic.Lib.StableHlo.Run

@[expose] public section

noncomputable section

namespace Cert.KernelIdeal.Hand

open Cert.KernelIdeal Cert.KernelIdeal.Gen Cert.Moe
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-- The arguments as launched. -/
def args : Args where
  x := m ((c.tc : Thread nD τ).loc main_arg0)
  dm := m ((c.tc : Thread nD τ).loc main_arg1)
  cm := m ((c.tc : Thread nD τ).loc main_arg2)
  w1 := m ((c.tc : Thread nD τ).loc main_arg3)
  b1 := m ((c.tc : Thread nD τ).loc main_arg4)
  w2 := m ((c.tc : Thread nD τ).loc main_arg5)
  b2 := m ((c.tc : Thread nD τ).loc main_arg6)

/-! ## The arrays at the region's entry -/

theorem V_v0 : V m c main_v0 = shapeCast S2048x768 (args m c).x shapeCasts_S1x2048x768_S2048x768 := by
  show StableHlo.after (List.flatten [hostOps0]) (fun b => m (c, b)) (Proc.devRef .tc main_v0) = _
  simp only [hostOps0, List.flatten_cons, List.flatten_nil, List.append_nil]
  after_results
  rfl
theorem V_v1 : V m c main_v1 = shapeCast S2048x8x256 (args m c).dm shapeCasts_S1x2048x8x256_S2048x8x256 := by
  show StableHlo.after (List.flatten [hostOps0]) (fun b => m (c, b)) (Proc.devRef .tc main_v1) = _
  simp only [hostOps0, List.flatten_cons, List.flatten_nil, List.append_nil]
  after_results
  rfl
theorem V_v2 : V m c main_v2 = shapeCast S2048x8x256 (args m c).cm shapeCasts_S1x2048x8x256_S2048x8x256 := by
  show StableHlo.after (List.flatten [hostOps0]) (fun b => m (c, b)) (Proc.devRef .tc main_v2) = _
  simp only [hostOps0, List.flatten_cons, List.flatten_nil, List.append_nil]
  after_results
  rfl
theorem V_v3 : V m c main_v3 = shapeCast S8x1x384 (args m c).b1 shapeCasts_S8x384_S8x1x384 := by
  show StableHlo.after (List.flatten [hostOps0]) (fun b => m (c, b)) (Proc.devRef .tc main_v3) = _
  simp only [hostOps0, List.flatten_cons, List.flatten_nil, List.append_nil]
  after_results
  rfl
theorem V_v4 : V m c main_v4 = shapeCast S8x1x768 (args m c).b2 shapeCasts_S8x768_S8x1x768 := by
  show StableHlo.after (List.flatten [hostOps0]) (fun b => m (c, b)) (Proc.devRef .tc main_v4) = _
  simp only [hostOps0, List.flatten_cons, List.flatten_nil, List.append_nil]
  after_results
  rfl

theorem v0_apply (s : Fin 2048) (j : Fin 768) : (V m c main_v0 : Vec Ideal S2048x768 .f32) (ix2 s j) = (args m c).x (ix3 0 s j) := by
  rw [V_v0]; pointwise
theorem v1_apply (s : Fin 2048) (e : Fin 8) (k : Fin 256) :
    (V m c main_v1 : Vec Ideal S2048x8x256 .f32) (ix3 s e k) = (args m c).dm (ix4 0 s e k) := by
  rw [V_v1]; pointwise
theorem v2_apply (s : Fin 2048) (e : Fin 8) (k : Fin 256) :
    (V m c main_v2 : Vec Ideal S2048x8x256 .f32) (ix3 s e k) = (args m c).cm (ix4 0 s e k) := by
  rw [V_v2]; pointwise
theorem v3_apply (e : Fin 8) (l : Fin 384) : (V m c main_v3 : Vec Ideal S8x1x384 .f32) (ix3 e 0 l) = (args m c).b1 (ix2 e l) := by
  rw [V_v3]; pointwise
theorem v4_apply (e : Fin 8) (j : Fin 768) : (V m c main_v4 : Vec Ideal S8x1x768 .f32) (ix3 e 0 j) = (args m c).b2 (ix2 e j) := by
  rw [V_v4]; pointwise

/-! ## The windows' blocks -/

theorem idx0 : ∀ t : Fin cfg0.N, t.val < 4 → win0_0.index t = ![t.val, 0, 0] := (by decide +kernel : ∀ t : Fin grid0.N, _)
theorem idx1 : ∀ t : Fin cfg0.N, t.val < 4 → win0_1.index t = ![t.val, 0] := (by decide +kernel : ∀ t : Fin grid0.N, _)
theorem idx2 : ∀ t : Fin cfg0.N, 4 ≤ t.val → t.val < 12 → win0_2.index t = ![t.val - 4, 0, 0] := (by decide +kernel : ∀ t : Fin grid0.N, _)
theorem idx3 : ∀ t : Fin cfg0.N, 4 ≤ t.val → t.val < 12 → win0_3.index t = ![t.val - 4, 0, 0] := (by decide +kernel : ∀ t : Fin grid0.N, _)
theorem idx4 : ∀ t : Fin cfg0.N, win0_4.flush t = true → 12 ≤ t.val ∧ win0_4.index t = ![t.val - 12, 0] := (by decide +kernel : ∀ t : Fin grid0.N, _)
theorem qOf_val : ∀ t : Fin cfg0.N, 12 ≤ t.val → (qOf (grid0.coords t)).val = t.val - 12 := (by decide +kernel : ∀ t : Fin grid0.N, _)

/-- Row `r` of row block `q`. -/
def row (q : Fin 4) (r : Fin 512) : Fin 2048 := ⟨512 * q.val + r.val, by omega⟩

theorem tP_of (k : ℕ) (h : k < 16) : (tP k).val = k := Nat.mod_eq_of_lt h

theorem dB_apply (q : Fin 4) (r : Fin 512) (e : Fin 8) (k : Fin 256) : dB m c q.val (ix3 r e k) = (args m c).dm (ix4 0 (row q r) e k) := by
  rw [← v1_apply]
  have h := idx0 (tP q.val)
  rw [tP_of _ (by omega)] at h
  unfold dB
  blk_ext [iblk, h q.isLt, row]
theorem xB_apply (q : Fin 4) (r : Fin 512) (j : Fin 768) : xB m c q.val (ix2 r j) = (args m c).x (ix3 0 (row q r) j) := by
  rw [← v0_apply]
  have h := idx1 (tP q.val)
  rw [tP_of _ (by omega)] at h
  unfold xB
  blk_ext [iblk, h q.isLt, row]
theorem b1B_apply (e : Fin 8) (l : Fin 384) : b1B m c (e.val + 4) (ix3 0 0 l) = (args m c).b1 (ix2 e l) := by
  rw [← v3_apply]
  have h := idx2 (tP (e.val + 4))
  rw [tP_of _ (by omega)] at h
  unfold b1B
  blk_ext [iblk, h (by omega) (by omega)]
theorem b2B_apply (e : Fin 8) (j : Fin 768) : b2B m c (e.val + 4) (ix3 0 0 j) = (args m c).b2 (ix2 e j) := by
  rw [← v4_apply]
  have h := idx3 (tP (e.val + 4))
  rw [tP_of _ (by omega)] at h
  unfold b2B
  blk_ext [iblk, h (by omega) (by omega)]

theorem w1_apply (e : Fin 8) (j : Fin 768) (l : Fin 384) : w1Blk (arrW1 m c) e (ix3 0 j l) = (args m c).w1 (ix3 e j l) := by
  rw [show (args m c).w1 = V m c main_arg3 from (V_main_arg3 m c).symm]
  unfold w1Blk VecWindow.window arrW1
  blk_ext [off3]
theorem w2_apply (e : Fin 8) (l : Fin 384) (j : Fin 768) : w2Blk (arrW2 m c) e (ix3 0 l j) = (args m c).w2 (ix3 e l j) := by
  rw [show (args m c).w2 = V m c main_arg5 from (V_main_arg5 m c).symm]
  unfold w2Blk VecWindow.window arrW2
  blk_ext [off3]
theorem cm_apply (q : Fin 4) (r : Fin 512) (e : Fin 8) (k : Fin 256) : cmBlk (arrC m c) q (ix3 r e k) = (args m c).cm (ix4 0 (row q r) e k) := by
  rw [← v2_apply]
  unfold cmBlk VecWindow.window arrC
  blk_ext [offH, row]

/-! ## The values -/

/-- A sum over the rows, block by block. -/
theorem sum_rows (f : Fin 2048 → EReal) :
    ∑ s : Fin 2048, f s = ∑ r : Fin 512, f (row 0 r) + ∑ r : Fin 512, f (row 1 r) + ∑ r : Fin 512, f (row 2 r) + ∑ r : Fin 512, f (row 3 r) := by
  rw [← Fin.sum_univ_four (fun q => ∑ r : Fin 512, f (row q r)), ← Fintype.sum_prod_type' (fun q r => f (row q r))]
  refine (Fintype.sum_equiv (finProdFinEquiv (m := 4) (n := 512)) _ _ fun x => congrArg f (Fin.ext ?_)).symm
  show 512 * x.1.val + x.2.val = x.2.val + 512 * x.1.val
  omega

theorem accV_apply (e : Fin 8) (k : Fin 256) (j : Fin 768) : accV m c 3 e (ix2 k j) = gath (args m c) e k j := by
  unfold gath
  rw [sum_rows]
  simp only [accV, accAdd_apply, accInit_apply]
  have hd := dB_apply m c
  have hx := xB_apply m c
  simp only [← hd, ← hx]
  rfl

theorem yV_apply (e : Fin 8) (k : Fin 256) (j : Fin 768) : yV m c e (ix2 k j) = res (args m c) e k j := by
  unfold yV
  rw [yVal_apply]
  simp only [accV_apply, w1_apply, w2_apply, b1B_apply, b2B_apply]
  rfl

theorem outV_apply (t : Fin cfg0.N) (r : Fin 512) (j : Fin 768) : outV m c t (ix2 r j) = out (args m c) (row (qOf (grid0.coords t)) r) j := by
  unfold outV
  rw [outVal_apply]
  simp only [pay12_apply, cm_apply, yV_apply]
  rfl

/-- The output array after the loop. -/
def G : Vec Ideal S2048x768 .f32 := fun i => out (args m c) (i 0) (i 1)

theorem final : (dats m 0 c).arrAt 4 cfg0.N = G m c := by
  refine (dats m 0 c).arrAt_eq_of_covers 4 _ (by decide +kernel) fun t hf y => ?_
  obtain ⟨h12, hi⟩ := idx4 t hf
  have hq := qOf_val t h12
  blk_simp
  rw [after_4]
  refine (congrArg (outV m c t) (ix2_eta (n0 := 512) (n1 := 768) y).symm).trans ((outV_apply m c t (y 0) (y 1)).trans ?_)
  refine congrArg₂ (out (args m c)) (Fin.ext ?_) (Fin.ext ?_)
  · show 512 * (qOf (grid0.coords t)).val + (y 0).val = _
    rw [hq]
    blk_simp [hi]
    omega
  · blk_simp [hi]

/-- The result buffer after the program. -/
theorem W_v6 : Pipeline.afterTail₀ cfgs (dats m) 0 (V0 m) [hostOps1] c main_v6
    = shapeCast S1x2048x768 (G m c) shapeCasts_S2048x768_S1x2048x768 := by
  rw [← final]
  unfold Pipeline.afterTail₀
  simp only [hostOps1, List.flatten_cons, List.flatten_nil, List.append_nil]
  after_results
  exact congrArg (fun X => shapeCast S1x2048x768 X shapeCasts_S2048x768_S1x2048x768) (Pipeline.withArrays_arr spec0 launch0.win.arr_inj c _ _ 4)

/-- The kernel's result at an element. -/
theorem result_apply (s : Fin 2048) (j : Fin 768) :
    (Pipeline.afterTail₀ cfgs (dats m) 0 (V0 m) [hostOps1] c main_v6 : Vec Ideal S1x2048x768 .f32) (ix3 0 s j) = out (args m c) s j := by
  rw [W_v6]
  pointwise [G]

/-- The kernel's run: the result at every element the layer's, the arguments kept. -/
theorem run_value : θ_run defs (onTc (main (F := Ideal))) ⟨m, fun _ => 0, ρ⟩ fun r => ∀ c : Dev nD,
    r.2.mem ((c : Thread nD τ).loc main_v6) = (fun i => out (args m c) (i 1) (i 2) : Vec Ideal S1x2048x768 .f32) ∧ ArgsKept m r c :=
  (θ_run defs _ _).mono (fun r h c => ⟨((h.1 c).2 main_v6 (Pipeline.mem_restRefs_of main_v6 (by decide) (by decide))).trans
    (funext fun i => (congrArg _ (eq_row i)).trans (result_apply m c (i 1) (i 2))), args_kept m r h.1 c⟩) (run_main m ρ)

end Cert.KernelIdeal.Hand

end
-- ==== Proof.RefValue.lean ====
/-
  The reference's result, read at one element over the extended reals.
-/
module

public import proofs.«01_k».proof.Proof.Gen.ReferenceIdeal.Run
public import proofs.«01_k».proof.Proof.Spec

@[expose] public section

noncomputable section

namespace Cert.ReferenceIdeal.Hand

open Cert.ReferenceIdeal Cert.ReferenceIdeal.Gen Cert.ReferenceIdeal.Value Cert.Moe
open Idealize.ShloMosaic Idealize.ShloMosaic.TcCoe

variable (m : (ℓ : Loc nD τ sig) → Buf (Elt Ideal) ℓ) (c : Dev nD)

/-- The arguments as launched. -/
def args : Args where
  x := m ((c.tc : Thread nD τ).loc main_arg0)
  dm := m ((c.tc : Thread nD τ).loc main_arg1)
  cm := m ((c.tc : Thread nD τ).loc main_arg2)
  w1 := m ((c.tc : Thread nD τ).loc main_arg3)
  b1 := m ((c.tc : Thread nD τ).loc main_arg4)
  w2 := m ((c.tc : Thread nD τ).loc main_arg5)
  b2 := m ((c.tc : Thread nD τ).loc main_arg6)

/-! The reference's own terms, in stages. -/

/-- A constant at every element of the hidden layer. -/
def kT (b : BitVec 32) : FVec Ideal S1x8x256x384 .f32 := broadcastInDim S1x8x256x384 ![] bcast_S_S1x8x256x384 (constant S_ .f32 b)
/-- The gathered rows. -/
def gT (x : FVec Ideal S1x2048x768 .f32) (dm : FVec Ideal S1x2048x8x256 .f32) : FVec Ideal S1x8x256x768 .f32 :=
  Host.dotGeneral dot_S1x2048x8x256_S1x2048x768_S1x8x256x768_1_1_23_2_0_0 none dm x
/-- The hidden layer. -/
def hT (g : FVec Ideal S1x8x256x768 .f32) (w1 : FVec Ideal S8x768x384 .f32) (b1 : FVec Ideal S8x384 .f32) : FVec Ideal S1x8x256x384 .f32 :=
  addf (transpose S1x8x256x384 [2, 0, 3, 1] (Host.dotGeneral dot_S8x768x384_S1x8x256x768_S8x384x1x256_1_3_2_02_0_1 none w1 g)
      transposes_S8x384x1x256_S1x8x256x384_2_0_3_1)
    (broadcastInDim S1x8x256x384 ![0, 1, 2, 3] bcast_S1x8x1x384_S1x8x256x384_0_1_2_3 (broadcastInDim S1x8x1x384 ![1, 3] bcast_S8x384_S1x8x1x384_1_3 b1))
/-- The polynomial's variable. -/
def tT (a : FVec Ideal S1x8x256x384 .f32) : FVec Ideal S1x8x256x384 .f32 :=
  Host.divf (kT 0x3F800000#32) (addf (kT 0x3F800000#32) (mulf (kT 0x3EA7BA05#32) a))
/-- The polynomial. -/
def pT (t : FVec Ideal S1x8x256x384 .f32) : FVec Ideal S1x8x256x384 .f32 :=
  mulf t (addf (kT 0x3E827906#32) (mulf t (addf (kT 0xBE91A98E#32) (mulf t (addf (kT 0x3FB5F0E3#32)
    (mulf t (addf (kT 0xBFBA00E3#32) (mulf t (kT 0x3F87DC22#32)))))))))
/-- The approximation to the error function. -/
def eT (v : FVec Ideal S1x8x256x384 .f32) : FVec Ideal S1x8x256x384 .f32 :=
  mulf (Host.sign v) (subf (kT 0x3F800000#32) (mulf (pT (tT (Host.absf v))) (Host.exp (mulf (Host.negf (Host.absf v)) (Host.absf v)))))
/-- The activation. -/
def aT (h : FVec Ideal S1x8x256x384 .f32) : FVec Ideal S1x8x256x384 .f32 :=
  mulf (mulf (kT 0x3F000000#32) h) (addf (kT 0x3F800000#32) (eT (mulf h (kT 0x3F3504F3#32))))
/-- The experts' results. -/
def yT (a : FVec Ideal S1x8x256x384 .f32) (w2 : FVec Ideal S8x384x768 .f32) (b2 : FVec Ideal S8x768 .f32) : FVec Ideal S1x8x256x768 .f32 :=
  addf (transpose S1x8x256x768 [2, 0, 3, 1] (Host.dotGeneral dot_S8x384x768_S1x8x256x384_S8x768x1x256_1_3_2_02_0_1 none w2 a)
      transposes_S8x768x1x256_S1x8x256x768_2_0_3_1)
    (broadcastInDim S1x8x256x768 ![0, 1, 2, 3] bcast_S1x8x1x768_S1x8x256x768_0_1_2_3 (broadcastInDim S1x8x1x768 ![1, 3] bcast_S8x768_S1x8x1x768_1_3 b2))
/-- The result. -/
def oT (cm : FVec Ideal S1x2048x8x256 .f32) (y : FVec Ideal S1x8x256x768 .f32) : FVec Ideal S1x2048x768 .f32 :=
  Host.dotGeneral dot_S1x2048x8x256_S1x8x256x768_S1x2048x768_32_21_1_3_0_0 none cm y

set_option maxRecDepth 8192 in
theorem res_eq : res_out0 m c = oT (args m c).cm (yT (aT (hT (gT (args m c).x (args m c).dm) (args m c).w1 (args m c).b1)) (args m c).w2 (args m c).b2) := rfl

/-! Each stage at one element. -/

variable (A : Args)

theorem gT_apply (e : Fin 8) (k : Fin 256) (j : Fin 768) : gT A.x A.dm (ix4 0 e k j) = gath A e k j := by
  pointwise [gT, gath]

theorem hT_apply (e : Fin 8) (k : Fin 256) (l : Fin 384) : hT (gT A.x A.dm) A.w1 A.b1 (ix4 0 e k l) = hid A e k l := by
  pointwise [hT, hid]
  simp only [gT_apply]
  exact congrArg (· + _) (Finset.sum_congr rfl fun j _ => mul_comm _ _)

theorem aT_apply (h : FVec Ideal S1x8x256x384 .f32) (i : S1x8x256x384.Idx) : aT h i = gelu (h i) := by
  pointwise [aT, eT, pT, tT, kT, gelu, erfA, erfPoly, erfT]

theorem yT_apply (a : FVec Ideal S1x8x256x384 .f32) (e : Fin 8) (k : Fin 256) (j : Fin 768) :
    yT a A.w2 A.b2 (ix4 0 e k j) = (∑ l : Fin 384, a (ix4 0 e k l) * A.w2 (ix3 e l j)) + A.b2 (ix2 e j) := by
  pointwise [yT]
  exact congrArg (· + _) (Finset.sum_congr rfl fun j _ => mul_comm _ _)

theorem oT_apply (y : FVec Ideal S1x8x256x768 .f32) (s : Fin 2048) (j : Fin 768) :
    oT A.cm y (ix3 0 s j) = ∑ e : Fin 8, ∑ k : Fin 256, A.cm (ix4 0 s e k) * y (ix4 0 e k j) := by
  pointwise [oT]
  exact Finset.sum_comm

/-- The reference computes the layer. -/
theorem res_apply (s : Fin 2048) (j : Fin 768) : res_out0 m c (ix3 0 s j) = out (args m c) s j := by
  rw [res_eq, oT_apply]
  simp only [yT_apply, aT_apply, hT_apply]
  rfl

theorem res_out (m : (ℓ : Loc nD τ sig) → Buf (Elt Ideal) ℓ) (c : Dev nD) :
    res_out0 m c = (fun i => out (args m c) (i 1) (i 2) : FVec Ideal S1x2048x768 .f32) :=
  funext fun i => (congrArg (res_out0 m c) (eq_row i)).trans (res_apply m c (i 1) (i 2))

end Cert.ReferenceIdeal.Hand

end
-- ==== Proof.lean ====
/-
  The claims, put together: the frames of the kernel, of its ideal reading and of the reference, the rule by which the
  ideal reading differs from the kernel, and the equality of the two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.WordFrame
public import proofs.«01_k».proof.Proof.IdealFrame
public import proofs.«01_k».proof.Proof.IdealValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m g _ => Cert.Kernel.Hand.run_frame m g
/-- Its ideal reading's. -/
theorem frame_ideal : Cert.quiescent_KernelIdeal := fun m g _ => Cert.KernelIdeal.Hand.run_frame m g
/-- The reference's: it has no semaphore. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run m g)
/-- The sign read off the value is the sign read off the word. -/
theorem preserves_sign : Cert.preserves_Kernel_KernelIdeal := IdealRules.sign_bit.statement Cert.KernelIdeal.S256x384 .f32

/-- The two programs' results are the same sums: the layer's. -/
theorem algebraic : Cert.algebraic_KernelIdeal_ReferenceIdeal := fun m g m' g' _ hm => by
  have ha : ∀ c, Cert.ReferenceIdeal.Hand.args m' c = Cert.KernelIdeal.Hand.args m c := fun c => by
    obtain ⟨h0, h1, h2, h3, h4, h5, h6⟩ := hm c
    exact Cert.Moe.Args.ext h0 h1 h2 h3 h4 h5 h6
  refine ⟨fun c i => Cert.Moe.out (Cert.KernelIdeal.Hand.args m c) (i 1) (i 2), Cert.KernelIdeal.Hand.run_value m g,
    (θ_run Cert.ReferenceIdeal.defs _ _).mono (fun r h c => ⟨?_, (h c).2⟩) (Cert.ReferenceIdeal.Value.run m' g')⟩
  exact (h c).1.trans ((Cert.ReferenceIdeal.Hand.res_out m' c).trans (by rw [ha c]; rfl))

theorem claim : Cert.Claim := ⟨Cert.Kernel.Gen.facts, Cert.KernelIdeal.Gen.facts, Cert.ReferenceIdeal.Gen.facts,
  frame_kernel, frame_ideal, frame_reference, preserves_sign, algebraic⟩

end Cert.Proof

end
